-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![2048, 4096]⟩ ⟨2, ![2048, 32768]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 4096]⟩ ⟨2, ![2048, 32768]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 4096]⟩ ⟨2, ![2048, 32768]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![4096, 2048]⟩ ⟨2, ![32768, 2048]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![4096, 2048]⟩ ⟨2, ![32768, 2048]⟩ 0 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![4096, 2048]⟩ ⟨2, ![32768, 2048]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8, 2048]⟩ ⟨2, ![64, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x2048 : Shape := ⟨2, ![64, 2048]⟩
abbrev S2048x4096 : Shape := ⟨2, ![2048, 4096]⟩
abbrev S4096x2048 : Shape := ⟨2, ![4096, 2048]⟩
abbrev S8x2048 : Shape := ⟨2, ![8, 2048]⟩
abbrev S3x2048x512 : Shape := ⟨3, ![3, 2048, 512]⟩
abbrev S3x512x2048 : Shape := ⟨3, ![3, 512, 2048]⟩
abbrev S3 : Shape := ⟨1, ![3]⟩
abbrev S8x8x2048 : Shape := ⟨3, ![8, 8, 2048]⟩
abbrev S8 : Shape := ⟨1, ![8]⟩
abbrev S_ : Shape := ⟨0, ![]⟩
abbrev S1 : Shape := ⟨1, ![1]⟩
abbrev S1x2048x512 : Shape := ⟨3, ![1, 2048, 512]⟩
abbrev S2048x512 : Shape := ⟨2, ![2048, 512]⟩
abbrev S1x512x2048 : Shape := ⟨3, ![1, 512, 2048]⟩
abbrev S512x2048 : Shape := ⟨2, ![512, 2048]⟩
abbrev S64x512 : Shape := ⟨2, ![64, 512]⟩
abbrev S1x8x2048 : Shape := ⟨3, ![1, 8, 2048]⟩
abbrev S8x1x1 : Shape := ⟨3, ![8, 1, 1]⟩

abbrev nBuf : Space → Nat
  | .hbm => 8
  | .vmem => 8
  | .smem => 0
  | _ => 0

abbrev bufTy : (tb : Table) → Fin (tcTables nBuf tb) → BufTy
  | .hbm, ⟨0, _⟩ => ⟨S64x2048, .f32⟩
  | .hbm, ⟨1, _⟩ => ⟨S2048x4096, .f32⟩
  | .hbm, ⟨2, _⟩ => ⟨S2048x4096, .f32⟩
  | .hbm, ⟨3, _⟩ => ⟨S2048x4096, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S8x2048, .f32⟩
  | .local _ .vmem, ⟨0, _⟩ => ⟨S64x2048, .f32⟩
  | .local _ .vmem, ⟨1, _⟩ => ⟨S8x2048, .f32⟩
  | .local _ .vmem, ⟨2, _⟩ => ⟨S3x2048x512, .f32⟩
  | .local _ .vmem, ⟨3, _⟩ => ⟨S3x512x2048, .f32⟩
  | .local _ .vmem, ⟨4, _⟩ => ⟨S64x2048, .bf16⟩
  | .local _ .vmem, ⟨5, _⟩ => ⟨S64x2048, .f32⟩
  | .local _ .vmem, ⟨6, _⟩ => ⟨S64x2048, .bf16⟩
  | .local _ .vmem, ⟨7, _⟩ => ⟨S8x8x2048, .bf16⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c1_i32_395 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v420 : BitVec 32 := Scalar.addi v2 c1_i32_395
  let c8_i32_396 : BitVec 32 := 8#32
  let c0_i32_397 : BitVec 32 := 0#32
  let v421 : BitVec 1 := Scalar.cmpi .eq c8_i32_396 c0_i32_397
  let c1_i32_398 : BitVec 32 := 1#32
  let v422 : BitVec 32 := Scalar.select v421 c1_i32_398 c8_i32_396
  let v423 : BitVec 32 := Scalar.remsi v420 v422
  let c0_i32_400 : BitVec 32 := 0#32
  let v425 : BitVec 1 := Scalar.cmpi .slt v423 c0_i32_400
  let c0_i32_401 : BitVec 32 := 0#32
  let v426 : BitVec 1 := Scalar.cmpi .slt v422 c0_i32_401
  let v427 : BitVec 1 := Scalar.xori v425 v426
  let c0_i32_399 : BitVec 32 := 0#32
  let v424 : BitVec 1 := Scalar.cmpi .ne v423 c0_i32_399
  let v428 : BitVec 1 := Scalar.andi v427 v424
  let v429 : BitVec 32 := Scalar.addi v423 v422
  let v430 : BitVec 32 := Scalar.select v428 v429 v423
  ![v430.toNat]
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_405 : BitVec 32 := 0#32
  let c0_i32_406 : BitVec 32 := 0#32
  ![v2.toNat, 0, 0]
def k0_off4 (d0 : Dev nD) (c1_i32_395 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v420 : BitVec 32 := Scalar.addi v2 c1_i32_395
  let c8_i32_396 : BitVec 32 := 8#32
  let c0_i32_397 : BitVec 32 := 0#32
  let v421 : BitVec 1 := Scalar.cmpi .eq c8_i32_396 c0_i32_397
  let c1_i32_398 : BitVec 32 := 1#32
  let v422 : BitVec 32 := Scalar.select v421 c1_i32_398 c8_i32_396
  let v423 : BitVec 32 := Scalar.remsi v420 v422
  let c0_i32_400 : BitVec 32 := 0#32
  let v425 : BitVec 1 := Scalar.cmpi .slt v423 c0_i32_400
  let c0_i32_401 : BitVec 32 := 0#32
  let v426 : BitVec 1 := Scalar.cmpi .slt v422 c0_i32_401
  let v427 : BitVec 1 := Scalar.xori v425 v426
  let c0_i32_399 : BitVec 32 := 0#32
  let v424 : BitVec 1 := Scalar.cmpi .ne v423 c0_i32_399
  let v428 : BitVec 1 := Scalar.andi v427 v424
  let v429 : BitVec 32 := Scalar.addi v423 v422
  let v430 : BitVec 32 := Scalar.select v428 v429 v423
  let c8_i32_402 : BitVec 32 := 8#32
  let v431 : BitVec 32 := Scalar.muli v430 c8_i32_402
  let c0_i32_407 : BitVec 32 := 0#32
  ![v431.toNat, 0]
def k0_dev8 (d0 : Dev nD) : Nat :=
  let c0_i32_404 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_395 : BitVec 32 := 1#32
  let v420 : BitVec 32 := Scalar.addi v2 c1_i32_395
  let c8_i32_396 : BitVec 32 := 8#32
  let c0_i32_397 : BitVec 32 := 0#32
  let v421 : BitVec 1 := Scalar.cmpi .eq c8_i32_396 c0_i32_397
  let c1_i32_398 : BitVec 32 := 1#32
  let v422 : BitVec 32 := Scalar.select v421 c1_i32_398 c8_i32_396
  let v423 : BitVec 32 := Scalar.remsi v420 v422
  let c0_i32_400 : BitVec 32 := 0#32
  let v425 : BitVec 1 := Scalar.cmpi .slt v423 c0_i32_400
  let c0_i32_401 : BitVec 32 := 0#32
  let v426 : BitVec 1 := Scalar.cmpi .slt v422 c0_i32_401
  let v427 : BitVec 1 := Scalar.xori v425 v426
  let c0_i32_399 : BitVec 32 := 0#32
  let v424 : BitVec 1 := Scalar.cmpi .ne v423 c0_i32_399
  let v428 : BitVec 1 := Scalar.andi v427 v424
  let v429 : BitVec 32 := Scalar.addi v423 v422
  let v430 : BitVec 32 := Scalar.select v428 v429 v423
  let c1_i32_403 : BitVec 32 := 1#32
  let v432 : BitVec 32 := Scalar.muli v430 c1_i32_403
  let v433 : BitVec 32 := Scalar.addi c0_i32_404 v432
  v433.toNat
def k0_dev9 (d0 : Dev nD) : Nat :=
  let c0_i32_417 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_408 : BitVec 32 := 2#32
  let v441 : BitVec 32 := Scalar.addi v2 c2_i32_408
  let c8_i32_409 : BitVec 32 := 8#32
  let c0_i32_410 : BitVec 32 := 0#32
  let v442 : BitVec 1 := Scalar.cmpi .eq c8_i32_409 c0_i32_410
  let c1_i32_411 : BitVec 32 := 1#32
  let v443 : BitVec 32 := Scalar.select v442 c1_i32_411 c8_i32_409
  let v444 : BitVec 32 := Scalar.remsi v441 v443
  let c0_i32_413 : BitVec 32 := 0#32
  let v446 : BitVec 1 := Scalar.cmpi .slt v444 c0_i32_413
  let c0_i32_414 : BitVec 32 := 0#32
  let v447 : BitVec 1 := Scalar.cmpi .slt v443 c0_i32_414
  let v448 : BitVec 1 := Scalar.xori v446 v447
  let c0_i32_412 : BitVec 32 := 0#32
  let v445 : BitVec 1 := Scalar.cmpi .ne v444 c0_i32_412
  let v449 : BitVec 1 := Scalar.andi v448 v445
  let v450 : BitVec 32 := Scalar.addi v444 v443
  let v451 : BitVec 32 := Scalar.select v449 v450 v444
  let c1_i32_416 : BitVec 32 := 1#32
  let v453 : BitVec 32 := Scalar.muli v451 c1_i32_416
  let v454 : BitVec 32 := Scalar.addi c0_i32_417 v453
  v454.toNat
def k0_dev10 (d0 : Dev nD) : Nat :=
  let c0_i32_430 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_421 : BitVec 32 := 3#32
  let v462 : BitVec 32 := Scalar.addi v2 c3_i32_421
  let c8_i32_422 : BitVec 32 := 8#32
  let c0_i32_423 : BitVec 32 := 0#32
  let v463 : BitVec 1 := Scalar.cmpi .eq c8_i32_422 c0_i32_423
  let c1_i32_424 : BitVec 32 := 1#32
  let v464 : BitVec 32 := Scalar.select v463 c1_i32_424 c8_i32_422
  let v465 : BitVec 32 := Scalar.remsi v462 v464
  let c0_i32_426 : BitVec 32 := 0#32
  let v467 : BitVec 1 := Scalar.cmpi .slt v465 c0_i32_426
  let c0_i32_427 : BitVec 32 := 0#32
  let v468 : BitVec 1 := Scalar.cmpi .slt v464 c0_i32_427
  let v469 : BitVec 1 := Scalar.xori v467 v468
  let c0_i32_425 : BitVec 32 := 0#32
  let v466 : BitVec 1 := Scalar.cmpi .ne v465 c0_i32_425
  let v470 : BitVec 1 := Scalar.andi v469 v466
  let v471 : BitVec 32 := Scalar.addi v465 v464
  let v472 : BitVec 32 := Scalar.select v470 v471 v465
  let c1_i32_429 : BitVec 32 := 1#32
  let v474 : BitVec 32 := Scalar.muli v472 c1_i32_429
  let v475 : BitVec 32 := Scalar.addi c0_i32_430 v474
  v475.toNat
def k0_dev11 (d0 : Dev nD) : Nat :=
  let c0_i32_443 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_434 : BitVec 32 := 4#32
  let v483 : BitVec 32 := Scalar.addi v2 c4_i32_434
  let c8_i32_435 : BitVec 32 := 8#32
  let c0_i32_436 : BitVec 32 := 0#32
  let v484 : BitVec 1 := Scalar.cmpi .eq c8_i32_435 c0_i32_436
  let c1_i32_437 : BitVec 32 := 1#32
  let v485 : BitVec 32 := Scalar.select v484 c1_i32_437 c8_i32_435
  let v486 : BitVec 32 := Scalar.remsi v483 v485
  let c0_i32_439 : BitVec 32 := 0#32
  let v488 : BitVec 1 := Scalar.cmpi .slt v486 c0_i32_439
  let c0_i32_440 : BitVec 32 := 0#32
  let v489 : BitVec 1 := Scalar.cmpi .slt v485 c0_i32_440
  let v490 : BitVec 1 := Scalar.xori v488 v489
  let c0_i32_438 : BitVec 32 := 0#32
  let v487 : BitVec 1 := Scalar.cmpi .ne v486 c0_i32_438
  let v491 : BitVec 1 := Scalar.andi v490 v487
  let v492 : BitVec 32 := Scalar.addi v486 v485
  let v493 : BitVec 32 := Scalar.select v491 v492 v486
  let c1_i32_442 : BitVec 32 := 1#32
  let v495 : BitVec 32 := Scalar.muli v493 c1_i32_442
  let v496 : BitVec 32 := Scalar.addi c0_i32_443 v495
  v496.toNat
def k0_dev12 (d0 : Dev nD) : Nat :=
  let c0_i32_456 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_447 : BitVec 32 := 5#32
  let v504 : BitVec 32 := Scalar.addi v2 c5_i32_447
  let c8_i32_448 : BitVec 32 := 8#32
  let c0_i32_449 : BitVec 32 := 0#32
  let v505 : BitVec 1 := Scalar.cmpi .eq c8_i32_448 c0_i32_449
  let c1_i32_450 : BitVec 32 := 1#32
  let v506 : BitVec 32 := Scalar.select v505 c1_i32_450 c8_i32_448
  let v507 : BitVec 32 := Scalar.remsi v504 v506
  let c0_i32_452 : BitVec 32 := 0#32
  let v509 : BitVec 1 := Scalar.cmpi .slt v507 c0_i32_452
  let c0_i32_453 : BitVec 32 := 0#32
  let v510 : BitVec 1 := Scalar.cmpi .slt v506 c0_i32_453
  let v511 : BitVec 1 := Scalar.xori v509 v510
  let c0_i32_451 : BitVec 32 := 0#32
  let v508 : BitVec 1 := Scalar.cmpi .ne v507 c0_i32_451
  let v512 : BitVec 1 := Scalar.andi v511 v508
  let v513 : BitVec 32 := Scalar.addi v507 v506
  let v514 : BitVec 32 := Scalar.select v512 v513 v507
  let c1_i32_455 : BitVec 32 := 1#32
  let v516 : BitVec 32 := Scalar.muli v514 c1_i32_455
  let v517 : BitVec 32 := Scalar.addi c0_i32_456 v516
  v517.toNat
def k0_dev13 (d0 : Dev nD) : Nat :=
  let c0_i32_469 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_460 : BitVec 32 := 6#32
  let v525 : BitVec 32 := Scalar.addi v2 c6_i32_460
  let c8_i32_461 : BitVec 32 := 8#32
  let c0_i32_462 : BitVec 32 := 0#32
  let v526 : BitVec 1 := Scalar.cmpi .eq c8_i32_461 c0_i32_462
  let c1_i32_463 : BitVec 32 := 1#32
  let v527 : BitVec 32 := Scalar.select v526 c1_i32_463 c8_i32_461
  let v528 : BitVec 32 := Scalar.remsi v525 v527
  let c0_i32_465 : BitVec 32 := 0#32
  let v530 : BitVec 1 := Scalar.cmpi .slt v528 c0_i32_465
  let c0_i32_466 : BitVec 32 := 0#32
  let v531 : BitVec 1 := Scalar.cmpi .slt v527 c0_i32_466
  let v532 : BitVec 1 := Scalar.xori v530 v531
  let c0_i32_464 : BitVec 32 := 0#32
  let v529 : BitVec 1 := Scalar.cmpi .ne v528 c0_i32_464
  let v533 : BitVec 1 := Scalar.andi v532 v529
  let v534 : BitVec 32 := Scalar.addi v528 v527
  let v535 : BitVec 32 := Scalar.select v533 v534 v528
  let c1_i32_468 : BitVec 32 := 1#32
  let v537 : BitVec 32 := Scalar.muli v535 c1_i32_468
  let v538 : BitVec 32 := Scalar.addi c0_i32_469 v537
  v538.toNat
def k0_dev14 (d0 : Dev nD) : Nat :=
  let c0_i32_482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_473 : BitVec 32 := 7#32
  let v546 : BitVec 32 := Scalar.addi v2 c7_i32_473
  let c8_i32_474 : BitVec 32 := 8#32
  let c0_i32_475 : BitVec 32 := 0#32
  let v547 : BitVec 1 := Scalar.cmpi .eq c8_i32_474 c0_i32_475
  let c1_i32_476 : BitVec 32 := 1#32
  let v548 : BitVec 32 := Scalar.select v547 c1_i32_476 c8_i32_474
  let v549 : BitVec 32 := Scalar.remsi v546 v548
  let c0_i32_478 : BitVec 32 := 0#32
  let v551 : BitVec 1 := Scalar.cmpi .slt v549 c0_i32_478
  let c0_i32_479 : BitVec 32 := 0#32
  let v552 : BitVec 1 := Scalar.cmpi .slt v548 c0_i32_479
  let v553 : BitVec 1 := Scalar.xori v551 v552
  let c0_i32_477 : BitVec 32 := 0#32
  let v550 : BitVec 1 := Scalar.cmpi .ne v549 c0_i32_477
  let v554 : BitVec 1 := Scalar.andi v553 v550
  let v555 : BitVec 32 := Scalar.addi v549 v548
  let v556 : BitVec 32 := Scalar.select v554 v555 v549
  let c1_i32_481 : BitVec 32 := 1#32
  let v558 : BitVec 32 := Scalar.muli v556 c1_i32_481
  let v559 : BitVec 32 := Scalar.addi c0_i32_482 v558
  v559.toNat
def k0_off5 (d0 : Dev nD) (c1_i32_486 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v567 : BitVec 32 := Scalar.addi v2 c1_i32_486
  let c8_i32_487 : BitVec 32 := 8#32
  let c0_i32_488 : BitVec 32 := 0#32
  let v568 : BitVec 1 := Scalar.cmpi .eq c8_i32_487 c0_i32_488
  let c1_i32_489 : BitVec 32 := 1#32
  let v569 : BitVec 32 := Scalar.select v568 c1_i32_489 c8_i32_487
  let v570 : BitVec 32 := Scalar.remsi v567 v569
  let c0_i32_491 : BitVec 32 := 0#32
  let v572 : BitVec 1 := Scalar.cmpi .slt v570 c0_i32_491
  let c0_i32_492 : BitVec 32 := 0#32
  let v573 : BitVec 1 := Scalar.cmpi .slt v569 c0_i32_492
  let v574 : BitVec 1 := Scalar.xori v572 v573
  let c0_i32_490 : BitVec 32 := 0#32
  let v571 : BitVec 1 := Scalar.cmpi .ne v570 c0_i32_490
  let v575 : BitVec 1 := Scalar.andi v574 v571
  let v576 : BitVec 32 := Scalar.addi v570 v569
  let v577 : BitVec 32 := Scalar.select v575 v576 v570
  let c0_i32_496 : BitVec 32 := 0#32
  let c0_i32_497 : BitVec 32 := 0#32
  ![v577.toNat, 0, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_610 : BitVec 32 := 8#32
  let v745 : BitVec 32 := Scalar.muli v2 c8_i32_610
  let v746 : Index := Scalar.indexCast v745
  let c0_611 : Index := 0#32
  ![v746.toNat, 0]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_622 : BitVec 32 := 8#32
  let v767 : BitVec 32 := Scalar.muli v2 c8_i32_622
  let c0_i32_625 : BitVec 32 := 0#32
  ![v767.toNat, 0]
def k0_dev15 (d0 : Dev nD) : Nat :=
  let c0_i32_624 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_614 : BitVec 32 := 1#32
  let v755 : BitVec 32 := Scalar.addi v2 c1_i32_614
  let c8_i32_615 : BitVec 32 := 8#32
  let c0_i32_616 : BitVec 32 := 0#32
  let v756 : BitVec 1 := Scalar.cmpi .eq c8_i32_615 c0_i32_616
  let c1_i32_617 : BitVec 32 := 1#32
  let v757 : BitVec 32 := Scalar.select v756 c1_i32_617 c8_i32_615
  let v758 : BitVec 32 := Scalar.remsi v755 v757
  let c0_i32_619 : BitVec 32 := 0#32
  let v760 : BitVec 1 := Scalar.cmpi .slt v758 c0_i32_619
  let c0_i32_620 : BitVec 32 := 0#32
  let v761 : BitVec 1 := Scalar.cmpi .slt v757 c0_i32_620
  let v762 : BitVec 1 := Scalar.xori v760 v761
  let c0_i32_618 : BitVec 32 := 0#32
  let v759 : BitVec 1 := Scalar.cmpi .ne v758 c0_i32_618
  let v763 : BitVec 1 := Scalar.andi v762 v759
  let v764 : BitVec 32 := Scalar.addi v758 v757
  let v765 : BitVec 32 := Scalar.select v763 v764 v758
  let c1_i32_623 : BitVec 32 := 1#32
  let v768 : BitVec 32 := Scalar.muli v765 c1_i32_623
  let v769 : BitVec 32 := Scalar.addi c0_i32_624 v768
  v769.toNat
def k0_dev16 (d0 : Dev nD) : Nat :=
  let c0_i32_637 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_627 : BitVec 32 := 2#32
  let v776 : BitVec 32 := Scalar.addi v2 c2_i32_627
  let c8_i32_628 : BitVec 32 := 8#32
  let c0_i32_629 : BitVec 32 := 0#32
  let v777 : BitVec 1 := Scalar.cmpi .eq c8_i32_628 c0_i32_629
  let c1_i32_630 : BitVec 32 := 1#32
  let v778 : BitVec 32 := Scalar.select v777 c1_i32_630 c8_i32_628
  let v779 : BitVec 32 := Scalar.remsi v776 v778
  let c0_i32_632 : BitVec 32 := 0#32
  let v781 : BitVec 1 := Scalar.cmpi .slt v779 c0_i32_632
  let c0_i32_633 : BitVec 32 := 0#32
  let v782 : BitVec 1 := Scalar.cmpi .slt v778 c0_i32_633
  let v783 : BitVec 1 := Scalar.xori v781 v782
  let c0_i32_631 : BitVec 32 := 0#32
  let v780 : BitVec 1 := Scalar.cmpi .ne v779 c0_i32_631
  let v784 : BitVec 1 := Scalar.andi v783 v780
  let v785 : BitVec 32 := Scalar.addi v779 v778
  let v786 : BitVec 32 := Scalar.select v784 v785 v779
  let c1_i32_636 : BitVec 32 := 1#32
  let v789 : BitVec 32 := Scalar.muli v786 c1_i32_636
  let v790 : BitVec 32 := Scalar.addi c0_i32_637 v789
  v790.toNat
def k0_dev17 (d0 : Dev nD) : Nat :=
  let c0_i32_650 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_640 : BitVec 32 := 3#32
  let v797 : BitVec 32 := Scalar.addi v2 c3_i32_640
  let c8_i32_641 : BitVec 32 := 8#32
  let c0_i32_642 : BitVec 32 := 0#32
  let v798 : BitVec 1 := Scalar.cmpi .eq c8_i32_641 c0_i32_642
  let c1_i32_643 : BitVec 32 := 1#32
  let v799 : BitVec 32 := Scalar.select v798 c1_i32_643 c8_i32_641
  let v800 : BitVec 32 := Scalar.remsi v797 v799
  let c0_i32_645 : BitVec 32 := 0#32
  let v802 : BitVec 1 := Scalar.cmpi .slt v800 c0_i32_645
  let c0_i32_646 : BitVec 32 := 0#32
  let v803 : BitVec 1 := Scalar.cmpi .slt v799 c0_i32_646
  let v804 : BitVec 1 := Scalar.xori v802 v803
  let c0_i32_644 : BitVec 32 := 0#32
  let v801 : BitVec 1 := Scalar.cmpi .ne v800 c0_i32_644
  let v805 : BitVec 1 := Scalar.andi v804 v801
  let v806 : BitVec 32 := Scalar.addi v800 v799
  let v807 : BitVec 32 := Scalar.select v805 v806 v800
  let c1_i32_649 : BitVec 32 := 1#32
  let v810 : BitVec 32 := Scalar.muli v807 c1_i32_649
  let v811 : BitVec 32 := Scalar.addi c0_i32_650 v810
  v811.toNat
def k0_dev18 (d0 : Dev nD) : Nat :=
  let c0_i32_663 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_653 : BitVec 32 := 4#32
  let v818 : BitVec 32 := Scalar.addi v2 c4_i32_653
  let c8_i32_654 : BitVec 32 := 8#32
  let c0_i32_655 : BitVec 32 := 0#32
  let v819 : BitVec 1 := Scalar.cmpi .eq c8_i32_654 c0_i32_655
  let c1_i32_656 : BitVec 32 := 1#32
  let v820 : BitVec 32 := Scalar.select v819 c1_i32_656 c8_i32_654
  let v821 : BitVec 32 := Scalar.remsi v818 v820
  let c0_i32_658 : BitVec 32 := 0#32
  let v823 : BitVec 1 := Scalar.cmpi .slt v821 c0_i32_658
  let c0_i32_659 : BitVec 32 := 0#32
  let v824 : BitVec 1 := Scalar.cmpi .slt v820 c0_i32_659
  let v825 : BitVec 1 := Scalar.xori v823 v824
  let c0_i32_657 : BitVec 32 := 0#32
  let v822 : BitVec 1 := Scalar.cmpi .ne v821 c0_i32_657
  let v826 : BitVec 1 := Scalar.andi v825 v822
  let v827 : BitVec 32 := Scalar.addi v821 v820
  let v828 : BitVec 32 := Scalar.select v826 v827 v821
  let c1_i32_662 : BitVec 32 := 1#32
  let v831 : BitVec 32 := Scalar.muli v828 c1_i32_662
  let v832 : BitVec 32 := Scalar.addi c0_i32_663 v831
  v832.toNat
def k0_dev19 (d0 : Dev nD) : Nat :=
  let c0_i32_676 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_666 : BitVec 32 := 5#32
  let v839 : BitVec 32 := Scalar.addi v2 c5_i32_666
  let c8_i32_667 : BitVec 32 := 8#32
  let c0_i32_668 : BitVec 32 := 0#32
  let v840 : BitVec 1 := Scalar.cmpi .eq c8_i32_667 c0_i32_668
  let c1_i32_669 : BitVec 32 := 1#32
  let v841 : BitVec 32 := Scalar.select v840 c1_i32_669 c8_i32_667
  let v842 : BitVec 32 := Scalar.remsi v839 v841
  let c0_i32_671 : BitVec 32 := 0#32
  let v844 : BitVec 1 := Scalar.cmpi .slt v842 c0_i32_671
  let c0_i32_672 : BitVec 32 := 0#32
  let v845 : BitVec 1 := Scalar.cmpi .slt v841 c0_i32_672
  let v846 : BitVec 1 := Scalar.xori v844 v845
  let c0_i32_670 : BitVec 32 := 0#32
  let v843 : BitVec 1 := Scalar.cmpi .ne v842 c0_i32_670
  let v847 : BitVec 1 := Scalar.andi v846 v843
  let v848 : BitVec 32 := Scalar.addi v842 v841
  let v849 : BitVec 32 := Scalar.select v847 v848 v842
  let c1_i32_675 : BitVec 32 := 1#32
  let v852 : BitVec 32 := Scalar.muli v849 c1_i32_675
  let v853 : BitVec 32 := Scalar.addi c0_i32_676 v852
  v853.toNat
def k0_dev20 (d0 : Dev nD) : Nat :=
  let c0_i32_689 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_679 : BitVec 32 := 6#32
  let v860 : BitVec 32 := Scalar.addi v2 c6_i32_679
  let c8_i32_680 : BitVec 32 := 8#32
  let c0_i32_681 : BitVec 32 := 0#32
  let v861 : BitVec 1 := Scalar.cmpi .eq c8_i32_680 c0_i32_681
  let c1_i32_682 : BitVec 32 := 1#32
  let v862 : BitVec 32 := Scalar.select v861 c1_i32_682 c8_i32_680
  let v863 : BitVec 32 := Scalar.remsi v860 v862
  let c0_i32_684 : BitVec 32 := 0#32
  let v865 : BitVec 1 := Scalar.cmpi .slt v863 c0_i32_684
  let c0_i32_685 : BitVec 32 := 0#32
  let v866 : BitVec 1 := Scalar.cmpi .slt v862 c0_i32_685
  let v867 : BitVec 1 := Scalar.xori v865 v866
  let c0_i32_683 : BitVec 32 := 0#32
  let v864 : BitVec 1 := Scalar.cmpi .ne v863 c0_i32_683
  let v868 : BitVec 1 := Scalar.andi v867 v864
  let v869 : BitVec 32 := Scalar.addi v863 v862
  let v870 : BitVec 32 := Scalar.select v868 v869 v863
  let c1_i32_688 : BitVec 32 := 1#32
  let v873 : BitVec 32 := Scalar.muli v870 c1_i32_688
  let v874 : BitVec 32 := Scalar.addi c0_i32_689 v873
  v874.toNat
def k0_dev21 (d0 : Dev nD) : Nat :=
  let c0_i32_702 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_692 : BitVec 32 := 7#32
  let v881 : BitVec 32 := Scalar.addi v2 c7_i32_692
  let c8_i32_693 : BitVec 32 := 8#32
  let c0_i32_694 : BitVec 32 := 0#32
  let v882 : BitVec 1 := Scalar.cmpi .eq c8_i32_693 c0_i32_694
  let c1_i32_695 : BitVec 32 := 1#32
  let v883 : BitVec 32 := Scalar.select v882 c1_i32_695 c8_i32_693
  let v884 : BitVec 32 := Scalar.remsi v881 v883
  let c0_i32_697 : BitVec 32 := 0#32
  let v886 : BitVec 1 := Scalar.cmpi .slt v884 c0_i32_697
  let c0_i32_698 : BitVec 32 := 0#32
  let v887 : BitVec 1 := Scalar.cmpi .slt v883 c0_i32_698
  let v888 : BitVec 1 := Scalar.xori v886 v887
  let c0_i32_696 : BitVec 32 := 0#32
  let v885 : BitVec 1 := Scalar.cmpi .ne v884 c0_i32_696
  let v889 : BitVec 1 := Scalar.andi v888 v885
  let v890 : BitVec 32 := Scalar.addi v884 v883
  let v891 : BitVec 32 := Scalar.select v889 v890 v884
  let c1_i32_701 : BitVec 32 := 1#32
  let v894 : BitVec 32 := Scalar.muli v891 c1_i32_701
  let v895 : BitVec 32 := Scalar.addi c0_i32_702 v894
  v895.toNat
def k0_dev22 (d0 : Dev nD) : Nat :=
  let c0_i32_1140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1131 : BitVec 32 := 1#32
  let v1362 : BitVec 32 := Scalar.addi v2 c1_i32_1131
  let c8_i32_1132 : BitVec 32 := 8#32
  let c0_i32_1133 : BitVec 32 := 0#32
  let v1363 : BitVec 1 := Scalar.cmpi .eq c8_i32_1132 c0_i32_1133
  let c1_i32_1134 : BitVec 32 := 1#32
  let v1364 : BitVec 32 := Scalar.select v1363 c1_i32_1134 c8_i32_1132
  let v1365 : BitVec 32 := Scalar.remsi v1362 v1364
  let c0_i32_1136 : BitVec 32 := 0#32
  let v1367 : BitVec 1 := Scalar.cmpi .slt v1365 c0_i32_1136
  let c0_i32_1137 : BitVec 32 := 0#32
  let v1368 : BitVec 1 := Scalar.cmpi .slt v1364 c0_i32_1137
  let v1369 : BitVec 1 := Scalar.xori v1367 v1368
  let c0_i32_1135 : BitVec 32 := 0#32
  let v1366 : BitVec 1 := Scalar.cmpi .ne v1365 c0_i32_1135
  let v1370 : BitVec 1 := Scalar.andi v1369 v1366
  let v1371 : BitVec 32 := Scalar.addi v1365 v1364
  let v1372 : BitVec 32 := Scalar.select v1370 v1371 v1365
  let c1_i32_1139 : BitVec 32 := 1#32
  let v1374 : BitVec 32 := Scalar.muli v1372 c1_i32_1139
  let v1375 : BitVec 32 := Scalar.addi c0_i32_1140 v1374
  v1375.toNat
def k0_dev23 (d0 : Dev nD) : Nat :=
  let c0_i32_1153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1144 : BitVec 32 := 2#32
  let v1383 : BitVec 32 := Scalar.addi v2 c2_i32_1144
  let c8_i32_1145 : BitVec 32 := 8#32
  let c0_i32_1146 : BitVec 32 := 0#32
  let v1384 : BitVec 1 := Scalar.cmpi .eq c8_i32_1145 c0_i32_1146
  let c1_i32_1147 : BitVec 32 := 1#32
  let v1385 : BitVec 32 := Scalar.select v1384 c1_i32_1147 c8_i32_1145
  let v1386 : BitVec 32 := Scalar.remsi v1383 v1385
  let c0_i32_1149 : BitVec 32 := 0#32
  let v1388 : BitVec 1 := Scalar.cmpi .slt v1386 c0_i32_1149
  let c0_i32_1150 : BitVec 32 := 0#32
  let v1389 : BitVec 1 := Scalar.cmpi .slt v1385 c0_i32_1150
  let v1390 : BitVec 1 := Scalar.xori v1388 v1389
  let c0_i32_1148 : BitVec 32 := 0#32
  let v1387 : BitVec 1 := Scalar.cmpi .ne v1386 c0_i32_1148
  let v1391 : BitVec 1 := Scalar.andi v1390 v1387
  let v1392 : BitVec 32 := Scalar.addi v1386 v1385
  let v1393 : BitVec 32 := Scalar.select v1391 v1392 v1386
  let c1_i32_1152 : BitVec 32 := 1#32
  let v1395 : BitVec 32 := Scalar.muli v1393 c1_i32_1152
  let v1396 : BitVec 32 := Scalar.addi c0_i32_1153 v1395
  v1396.toNat
def k0_dev24 (d0 : Dev nD) : Nat :=
  let c0_i32_1166 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1157 : BitVec 32 := 3#32
  let v1404 : BitVec 32 := Scalar.addi v2 c3_i32_1157
  let c8_i32_1158 : BitVec 32 := 8#32
  let c0_i32_1159 : BitVec 32 := 0#32
  let v1405 : BitVec 1 := Scalar.cmpi .eq c8_i32_1158 c0_i32_1159
  let c1_i32_1160 : BitVec 32 := 1#32
  let v1406 : BitVec 32 := Scalar.select v1405 c1_i32_1160 c8_i32_1158
  let v1407 : BitVec 32 := Scalar.remsi v1404 v1406
  let c0_i32_1162 : BitVec 32 := 0#32
  let v1409 : BitVec 1 := Scalar.cmpi .slt v1407 c0_i32_1162
  let c0_i32_1163 : BitVec 32 := 0#32
  let v1410 : BitVec 1 := Scalar.cmpi .slt v1406 c0_i32_1163
  let v1411 : BitVec 1 := Scalar.xori v1409 v1410
  let c0_i32_1161 : BitVec 32 := 0#32
  let v1408 : BitVec 1 := Scalar.cmpi .ne v1407 c0_i32_1161
  let v1412 : BitVec 1 := Scalar.andi v1411 v1408
  let v1413 : BitVec 32 := Scalar.addi v1407 v1406
  let v1414 : BitVec 32 := Scalar.select v1412 v1413 v1407
  let c1_i32_1165 : BitVec 32 := 1#32
  let v1416 : BitVec 32 := Scalar.muli v1414 c1_i32_1165
  let v1417 : BitVec 32 := Scalar.addi c0_i32_1166 v1416
  v1417.toNat
def k0_dev25 (d0 : Dev nD) : Nat :=
  let c0_i32_1179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1170 : BitVec 32 := 4#32
  let v1425 : BitVec 32 := Scalar.addi v2 c4_i32_1170
  let c8_i32_1171 : BitVec 32 := 8#32
  let c0_i32_1172 : BitVec 32 := 0#32
  let v1426 : BitVec 1 := Scalar.cmpi .eq c8_i32_1171 c0_i32_1172
  let c1_i32_1173 : BitVec 32 := 1#32
  let v1427 : BitVec 32 := Scalar.select v1426 c1_i32_1173 c8_i32_1171
  let v1428 : BitVec 32 := Scalar.remsi v1425 v1427
  let c0_i32_1175 : BitVec 32 := 0#32
  let v1430 : BitVec 1 := Scalar.cmpi .slt v1428 c0_i32_1175
  let c0_i32_1176 : BitVec 32 := 0#32
  let v1431 : BitVec 1 := Scalar.cmpi .slt v1427 c0_i32_1176
  let v1432 : BitVec 1 := Scalar.xori v1430 v1431
  let c0_i32_1174 : BitVec 32 := 0#32
  let v1429 : BitVec 1 := Scalar.cmpi .ne v1428 c0_i32_1174
  let v1433 : BitVec 1 := Scalar.andi v1432 v1429
  let v1434 : BitVec 32 := Scalar.addi v1428 v1427
  let v1435 : BitVec 32 := Scalar.select v1433 v1434 v1428
  let c1_i32_1178 : BitVec 32 := 1#32
  let v1437 : BitVec 32 := Scalar.muli v1435 c1_i32_1178
  let v1438 : BitVec 32 := Scalar.addi c0_i32_1179 v1437
  v1438.toNat
def k0_dev26 (d0 : Dev nD) : Nat :=
  let c0_i32_1192 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1183 : BitVec 32 := 5#32
  let v1446 : BitVec 32 := Scalar.addi v2 c5_i32_1183
  let c8_i32_1184 : BitVec 32 := 8#32
  let c0_i32_1185 : BitVec 32 := 0#32
  let v1447 : BitVec 1 := Scalar.cmpi .eq c8_i32_1184 c0_i32_1185
  let c1_i32_1186 : BitVec 32 := 1#32
  let v1448 : BitVec 32 := Scalar.select v1447 c1_i32_1186 c8_i32_1184
  let v1449 : BitVec 32 := Scalar.remsi v1446 v1448
  let c0_i32_1188 : BitVec 32 := 0#32
  let v1451 : BitVec 1 := Scalar.cmpi .slt v1449 c0_i32_1188
  let c0_i32_1189 : BitVec 32 := 0#32
  let v1452 : BitVec 1 := Scalar.cmpi .slt v1448 c0_i32_1189
  let v1453 : BitVec 1 := Scalar.xori v1451 v1452
  let c0_i32_1187 : BitVec 32 := 0#32
  let v1450 : BitVec 1 := Scalar.cmpi .ne v1449 c0_i32_1187
  let v1454 : BitVec 1 := Scalar.andi v1453 v1450
  let v1455 : BitVec 32 := Scalar.addi v1449 v1448
  let v1456 : BitVec 32 := Scalar.select v1454 v1455 v1449
  let c1_i32_1191 : BitVec 32 := 1#32
  let v1458 : BitVec 32 := Scalar.muli v1456 c1_i32_1191
  let v1459 : BitVec 32 := Scalar.addi c0_i32_1192 v1458
  v1459.toNat
def k0_dev27 (d0 : Dev nD) : Nat :=
  let c0_i32_1205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1196 : BitVec 32 := 6#32
  let v1467 : BitVec 32 := Scalar.addi v2 c6_i32_1196
  let c8_i32_1197 : BitVec 32 := 8#32
  let c0_i32_1198 : BitVec 32 := 0#32
  let v1468 : BitVec 1 := Scalar.cmpi .eq c8_i32_1197 c0_i32_1198
  let c1_i32_1199 : BitVec 32 := 1#32
  let v1469 : BitVec 32 := Scalar.select v1468 c1_i32_1199 c8_i32_1197
  let v1470 : BitVec 32 := Scalar.remsi v1467 v1469
  let c0_i32_1201 : BitVec 32 := 0#32
  let v1472 : BitVec 1 := Scalar.cmpi .slt v1470 c0_i32_1201
  let c0_i32_1202 : BitVec 32 := 0#32
  let v1473 : BitVec 1 := Scalar.cmpi .slt v1469 c0_i32_1202
  let v1474 : BitVec 1 := Scalar.xori v1472 v1473
  let c0_i32_1200 : BitVec 32 := 0#32
  let v1471 : BitVec 1 := Scalar.cmpi .ne v1470 c0_i32_1200
  let v1475 : BitVec 1 := Scalar.andi v1474 v1471
  let v1476 : BitVec 32 := Scalar.addi v1470 v1469
  let v1477 : BitVec 32 := Scalar.select v1475 v1476 v1470
  let c1_i32_1204 : BitVec 32 := 1#32
  let v1479 : BitVec 32 := Scalar.muli v1477 c1_i32_1204
  let v1480 : BitVec 32 := Scalar.addi c0_i32_1205 v1479
  v1480.toNat
def k0_dev28 (d0 : Dev nD) : Nat :=
  let c0_i32_1218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1209 : BitVec 32 := 7#32
  let v1488 : BitVec 32 := Scalar.addi v2 c7_i32_1209
  let c8_i32_1210 : BitVec 32 := 8#32
  let c0_i32_1211 : BitVec 32 := 0#32
  let v1489 : BitVec 1 := Scalar.cmpi .eq c8_i32_1210 c0_i32_1211
  let c1_i32_1212 : BitVec 32 := 1#32
  let v1490 : BitVec 32 := Scalar.select v1489 c1_i32_1212 c8_i32_1210
  let v1491 : BitVec 32 := Scalar.remsi v1488 v1490
  let c0_i32_1214 : BitVec 32 := 0#32
  let v1493 : BitVec 1 := Scalar.cmpi .slt v1491 c0_i32_1214
  let c0_i32_1215 : BitVec 32 := 0#32
  let v1494 : BitVec 1 := Scalar.cmpi .slt v1490 c0_i32_1215
  let v1495 : BitVec 1 := Scalar.xori v1493 v1494
  let c0_i32_1213 : BitVec 32 := 0#32
  let v1492 : BitVec 1 := Scalar.cmpi .ne v1491 c0_i32_1213
  let v1496 : BitVec 1 := Scalar.andi v1495 v1492
  let v1497 : BitVec 32 := Scalar.addi v1491 v1490
  let v1498 : BitVec 32 := Scalar.select v1496 v1497 v1491
  let c1_i32_1217 : BitVec 32 := 1#32
  let v1500 : BitVec 32 := Scalar.muli v1498 c1_i32_1217
  let v1501 : BitVec 32 := Scalar.addi c0_i32_1218 v1500
  v1501.toNat
def k0_dev29 (d0 : Dev nD) : Nat :=
  let c0_i32_1360 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1350 : BitVec 32 := 1#32
  let v1697 : BitVec 32 := Scalar.addi v2 c1_i32_1350
  let c8_i32_1351 : BitVec 32 := 8#32
  let c0_i32_1352 : BitVec 32 := 0#32
  let v1698 : BitVec 1 := Scalar.cmpi .eq c8_i32_1351 c0_i32_1352
  let c1_i32_1353 : BitVec 32 := 1#32
  let v1699 : BitVec 32 := Scalar.select v1698 c1_i32_1353 c8_i32_1351
  let v1700 : BitVec 32 := Scalar.remsi v1697 v1699
  let c0_i32_1355 : BitVec 32 := 0#32
  let v1702 : BitVec 1 := Scalar.cmpi .slt v1700 c0_i32_1355
  let c0_i32_1356 : BitVec 32 := 0#32
  let v1703 : BitVec 1 := Scalar.cmpi .slt v1699 c0_i32_1356
  let v1704 : BitVec 1 := Scalar.xori v1702 v1703
  let c0_i32_1354 : BitVec 32 := 0#32
  let v1701 : BitVec 1 := Scalar.cmpi .ne v1700 c0_i32_1354
  let v1705 : BitVec 1 := Scalar.andi v1704 v1701
  let v1706 : BitVec 32 := Scalar.addi v1700 v1699
  let v1707 : BitVec 32 := Scalar.select v1705 v1706 v1700
  let c1_i32_1359 : BitVec 32 := 1#32
  let v1710 : BitVec 32 := Scalar.muli v1707 c1_i32_1359
  let v1711 : BitVec 32 := Scalar.addi c0_i32_1360 v1710
  v1711.toNat
def k0_dev30 (d0 : Dev nD) : Nat :=
  let c0_i32_1373 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1363 : BitVec 32 := 2#32
  let v1718 : BitVec 32 := Scalar.addi v2 c2_i32_1363
  let c8_i32_1364 : BitVec 32 := 8#32
  let c0_i32_1365 : BitVec 32 := 0#32
  let v1719 : BitVec 1 := Scalar.cmpi .eq c8_i32_1364 c0_i32_1365
  let c1_i32_1366 : BitVec 32 := 1#32
  let v1720 : BitVec 32 := Scalar.select v1719 c1_i32_1366 c8_i32_1364
  let v1721 : BitVec 32 := Scalar.remsi v1718 v1720
  let c0_i32_1368 : BitVec 32 := 0#32
  let v1723 : BitVec 1 := Scalar.cmpi .slt v1721 c0_i32_1368
  let c0_i32_1369 : BitVec 32 := 0#32
  let v1724 : BitVec 1 := Scalar.cmpi .slt v1720 c0_i32_1369
  let v1725 : BitVec 1 := Scalar.xori v1723 v1724
  let c0_i32_1367 : BitVec 32 := 0#32
  let v1722 : BitVec 1 := Scalar.cmpi .ne v1721 c0_i32_1367
  let v1726 : BitVec 1 := Scalar.andi v1725 v1722
  let v1727 : BitVec 32 := Scalar.addi v1721 v1720
  let v1728 : BitVec 32 := Scalar.select v1726 v1727 v1721
  let c1_i32_1372 : BitVec 32 := 1#32
  let v1731 : BitVec 32 := Scalar.muli v1728 c1_i32_1372
  let v1732 : BitVec 32 := Scalar.addi c0_i32_1373 v1731
  v1732.toNat
def k0_dev31 (d0 : Dev nD) : Nat :=
  let c0_i32_1386 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1376 : BitVec 32 := 3#32
  let v1739 : BitVec 32 := Scalar.addi v2 c3_i32_1376
  let c8_i32_1377 : BitVec 32 := 8#32
  let c0_i32_1378 : BitVec 32 := 0#32
  let v1740 : BitVec 1 := Scalar.cmpi .eq c8_i32_1377 c0_i32_1378
  let c1_i32_1379 : BitVec 32 := 1#32
  let v1741 : BitVec 32 := Scalar.select v1740 c1_i32_1379 c8_i32_1377
  let v1742 : BitVec 32 := Scalar.remsi v1739 v1741
  let c0_i32_1381 : BitVec 32 := 0#32
  let v1744 : BitVec 1 := Scalar.cmpi .slt v1742 c0_i32_1381
  let c0_i32_1382 : BitVec 32 := 0#32
  let v1745 : BitVec 1 := Scalar.cmpi .slt v1741 c0_i32_1382
  let v1746 : BitVec 1 := Scalar.xori v1744 v1745
  let c0_i32_1380 : BitVec 32 := 0#32
  let v1743 : BitVec 1 := Scalar.cmpi .ne v1742 c0_i32_1380
  let v1747 : BitVec 1 := Scalar.andi v1746 v1743
  let v1748 : BitVec 32 := Scalar.addi v1742 v1741
  let v1749 : BitVec 32 := Scalar.select v1747 v1748 v1742
  let c1_i32_1385 : BitVec 32 := 1#32
  let v1752 : BitVec 32 := Scalar.muli v1749 c1_i32_1385
  let v1753 : BitVec 32 := Scalar.addi c0_i32_1386 v1752
  v1753.toNat
def k0_dev32 (d0 : Dev nD) : Nat :=
  let c0_i32_1399 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1389 : BitVec 32 := 4#32
  let v1760 : BitVec 32 := Scalar.addi v2 c4_i32_1389
  let c8_i32_1390 : BitVec 32 := 8#32
  let c0_i32_1391 : BitVec 32 := 0#32
  let v1761 : BitVec 1 := Scalar.cmpi .eq c8_i32_1390 c0_i32_1391
  let c1_i32_1392 : BitVec 32 := 1#32
  let v1762 : BitVec 32 := Scalar.select v1761 c1_i32_1392 c8_i32_1390
  let v1763 : BitVec 32 := Scalar.remsi v1760 v1762
  let c0_i32_1394 : BitVec 32 := 0#32
  let v1765 : BitVec 1 := Scalar.cmpi .slt v1763 c0_i32_1394
  let c0_i32_1395 : BitVec 32 := 0#32
  let v1766 : BitVec 1 := Scalar.cmpi .slt v1762 c0_i32_1395
  let v1767 : BitVec 1 := Scalar.xori v1765 v1766
  let c0_i32_1393 : BitVec 32 := 0#32
  let v1764 : BitVec 1 := Scalar.cmpi .ne v1763 c0_i32_1393
  let v1768 : BitVec 1 := Scalar.andi v1767 v1764
  let v1769 : BitVec 32 := Scalar.addi v1763 v1762
  let v1770 : BitVec 32 := Scalar.select v1768 v1769 v1763
  let c1_i32_1398 : BitVec 32 := 1#32
  let v1773 : BitVec 32 := Scalar.muli v1770 c1_i32_1398
  let v1774 : BitVec 32 := Scalar.addi c0_i32_1399 v1773
  v1774.toNat
def k0_dev33 (d0 : Dev nD) : Nat :=
  let c0_i32_1412 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1402 : BitVec 32 := 5#32
  let v1781 : BitVec 32 := Scalar.addi v2 c5_i32_1402
  let c8_i32_1403 : BitVec 32 := 8#32
  let c0_i32_1404 : BitVec 32 := 0#32
  let v1782 : BitVec 1 := Scalar.cmpi .eq c8_i32_1403 c0_i32_1404
  let c1_i32_1405 : BitVec 32 := 1#32
  let v1783 : BitVec 32 := Scalar.select v1782 c1_i32_1405 c8_i32_1403
  let v1784 : BitVec 32 := Scalar.remsi v1781 v1783
  let c0_i32_1407 : BitVec 32 := 0#32
  let v1786 : BitVec 1 := Scalar.cmpi .slt v1784 c0_i32_1407
  let c0_i32_1408 : BitVec 32 := 0#32
  let v1787 : BitVec 1 := Scalar.cmpi .slt v1783 c0_i32_1408
  let v1788 : BitVec 1 := Scalar.xori v1786 v1787
  let c0_i32_1406 : BitVec 32 := 0#32
  let v1785 : BitVec 1 := Scalar.cmpi .ne v1784 c0_i32_1406
  let v1789 : BitVec 1 := Scalar.andi v1788 v1785
  let v1790 : BitVec 32 := Scalar.addi v1784 v1783
  let v1791 : BitVec 32 := Scalar.select v1789 v1790 v1784
  let c1_i32_1411 : BitVec 32 := 1#32
  let v1794 : BitVec 32 := Scalar.muli v1791 c1_i32_1411
  let v1795 : BitVec 32 := Scalar.addi c0_i32_1412 v1794
  v1795.toNat
def k0_dev34 (d0 : Dev nD) : Nat :=
  let c0_i32_1425 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1415 : BitVec 32 := 6#32
  let v1802 : BitVec 32 := Scalar.addi v2 c6_i32_1415
  let c8_i32_1416 : BitVec 32 := 8#32
  let c0_i32_1417 : BitVec 32 := 0#32
  let v1803 : BitVec 1 := Scalar.cmpi .eq c8_i32_1416 c0_i32_1417
  let c1_i32_1418 : BitVec 32 := 1#32
  let v1804 : BitVec 32 := Scalar.select v1803 c1_i32_1418 c8_i32_1416
  let v1805 : BitVec 32 := Scalar.remsi v1802 v1804
  let c0_i32_1420 : BitVec 32 := 0#32
  let v1807 : BitVec 1 := Scalar.cmpi .slt v1805 c0_i32_1420
  let c0_i32_1421 : BitVec 32 := 0#32
  let v1808 : BitVec 1 := Scalar.cmpi .slt v1804 c0_i32_1421
  let v1809 : BitVec 1 := Scalar.xori v1807 v1808
  let c0_i32_1419 : BitVec 32 := 0#32
  let v1806 : BitVec 1 := Scalar.cmpi .ne v1805 c0_i32_1419
  let v1810 : BitVec 1 := Scalar.andi v1809 v1806
  let v1811 : BitVec 32 := Scalar.addi v1805 v1804
  let v1812 : BitVec 32 := Scalar.select v1810 v1811 v1805
  let c1_i32_1424 : BitVec 32 := 1#32
  let v1815 : BitVec 32 := Scalar.muli v1812 c1_i32_1424
  let v1816 : BitVec 32 := Scalar.addi c0_i32_1425 v1815
  v1816.toNat
def k0_dev35 (d0 : Dev nD) : Nat :=
  let c0_i32_1438 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1428 : BitVec 32 := 7#32
  let v1823 : BitVec 32 := Scalar.addi v2 c7_i32_1428
  let c8_i32_1429 : BitVec 32 := 8#32
  let c0_i32_1430 : BitVec 32 := 0#32
  let v1824 : BitVec 1 := Scalar.cmpi .eq c8_i32_1429 c0_i32_1430
  let c1_i32_1431 : BitVec 32 := 1#32
  let v1825 : BitVec 32 := Scalar.select v1824 c1_i32_1431 c8_i32_1429
  let v1826 : BitVec 32 := Scalar.remsi v1823 v1825
  let c0_i32_1433 : BitVec 32 := 0#32
  let v1828 : BitVec 1 := Scalar.cmpi .slt v1826 c0_i32_1433
  let c0_i32_1434 : BitVec 32 := 0#32
  let v1829 : BitVec 1 := Scalar.cmpi .slt v1825 c0_i32_1434
  let v1830 : BitVec 1 := Scalar.xori v1828 v1829
  let c0_i32_1432 : BitVec 32 := 0#32
  let v1827 : BitVec 1 := Scalar.cmpi .ne v1826 c0_i32_1432
  let v1831 : BitVec 1 := Scalar.andi v1830 v1827
  let v1832 : BitVec 32 := Scalar.addi v1826 v1825
  let v1833 : BitVec 32 := Scalar.select v1831 v1832 v1826
  let c1_i32_1437 : BitVec 32 := 1#32
  let v1836 : BitVec 32 := Scalar.muli v1833 c1_i32_1437
  let v1837 : BitVec 32 := Scalar.addi c0_i32_1438 v1836
  v1837.toNat
def k0_dev36 (d0 : Dev nD) : Nat :=
  let c0_i32_1852 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1843 : BitVec 32 := 1#32
  let v2284 : BitVec 32 := Scalar.addi v2 c1_i32_1843
  let c8_i32_1844 : BitVec 32 := 8#32
  let c0_i32_1845 : BitVec 32 := 0#32
  let v2285 : BitVec 1 := Scalar.cmpi .eq c8_i32_1844 c0_i32_1845
  let c1_i32_1846 : BitVec 32 := 1#32
  let v2286 : BitVec 32 := Scalar.select v2285 c1_i32_1846 c8_i32_1844
  let v2287 : BitVec 32 := Scalar.remsi v2284 v2286
  let c0_i32_1848 : BitVec 32 := 0#32
  let v2289 : BitVec 1 := Scalar.cmpi .slt v2287 c0_i32_1848
  let c0_i32_1849 : BitVec 32 := 0#32
  let v2290 : BitVec 1 := Scalar.cmpi .slt v2286 c0_i32_1849
  let v2291 : BitVec 1 := Scalar.xori v2289 v2290
  let c0_i32_1847 : BitVec 32 := 0#32
  let v2288 : BitVec 1 := Scalar.cmpi .ne v2287 c0_i32_1847
  let v2292 : BitVec 1 := Scalar.andi v2291 v2288
  let v2293 : BitVec 32 := Scalar.addi v2287 v2286
  let v2294 : BitVec 32 := Scalar.select v2292 v2293 v2287
  let c1_i32_1851 : BitVec 32 := 1#32
  let v2296 : BitVec 32 := Scalar.muli v2294 c1_i32_1851
  let v2297 : BitVec 32 := Scalar.addi c0_i32_1852 v2296
  v2297.toNat
def k0_dev37 (d0 : Dev nD) : Nat :=
  let c0_i32_1865 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1856 : BitVec 32 := 2#32
  let v2305 : BitVec 32 := Scalar.addi v2 c2_i32_1856
  let c8_i32_1857 : BitVec 32 := 8#32
  let c0_i32_1858 : BitVec 32 := 0#32
  let v2306 : BitVec 1 := Scalar.cmpi .eq c8_i32_1857 c0_i32_1858
  let c1_i32_1859 : BitVec 32 := 1#32
  let v2307 : BitVec 32 := Scalar.select v2306 c1_i32_1859 c8_i32_1857
  let v2308 : BitVec 32 := Scalar.remsi v2305 v2307
  let c0_i32_1861 : BitVec 32 := 0#32
  let v2310 : BitVec 1 := Scalar.cmpi .slt v2308 c0_i32_1861
  let c0_i32_1862 : BitVec 32 := 0#32
  let v2311 : BitVec 1 := Scalar.cmpi .slt v2307 c0_i32_1862
  let v2312 : BitVec 1 := Scalar.xori v2310 v2311
  let c0_i32_1860 : BitVec 32 := 0#32
  let v2309 : BitVec 1 := Scalar.cmpi .ne v2308 c0_i32_1860
  let v2313 : BitVec 1 := Scalar.andi v2312 v2309
  let v2314 : BitVec 32 := Scalar.addi v2308 v2307
  let v2315 : BitVec 32 := Scalar.select v2313 v2314 v2308
  let c1_i32_1864 : BitVec 32 := 1#32
  let v2317 : BitVec 32 := Scalar.muli v2315 c1_i32_1864
  let v2318 : BitVec 32 := Scalar.addi c0_i32_1865 v2317
  v2318.toNat
def k0_dev38 (d0 : Dev nD) : Nat :=
  let c0_i32_1878 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1869 : BitVec 32 := 3#32
  let v2326 : BitVec 32 := Scalar.addi v2 c3_i32_1869
  let c8_i32_1870 : BitVec 32 := 8#32
  let c0_i32_1871 : BitVec 32 := 0#32
  let v2327 : BitVec 1 := Scalar.cmpi .eq c8_i32_1870 c0_i32_1871
  let c1_i32_1872 : BitVec 32 := 1#32
  let v2328 : BitVec 32 := Scalar.select v2327 c1_i32_1872 c8_i32_1870
  let v2329 : BitVec 32 := Scalar.remsi v2326 v2328
  let c0_i32_1874 : BitVec 32 := 0#32
  let v2331 : BitVec 1 := Scalar.cmpi .slt v2329 c0_i32_1874
  let c0_i32_1875 : BitVec 32 := 0#32
  let v2332 : BitVec 1 := Scalar.cmpi .slt v2328 c0_i32_1875
  let v2333 : BitVec 1 := Scalar.xori v2331 v2332
  let c0_i32_1873 : BitVec 32 := 0#32
  let v2330 : BitVec 1 := Scalar.cmpi .ne v2329 c0_i32_1873
  let v2334 : BitVec 1 := Scalar.andi v2333 v2330
  let v2335 : BitVec 32 := Scalar.addi v2329 v2328
  let v2336 : BitVec 32 := Scalar.select v2334 v2335 v2329
  let c1_i32_1877 : BitVec 32 := 1#32
  let v2338 : BitVec 32 := Scalar.muli v2336 c1_i32_1877
  let v2339 : BitVec 32 := Scalar.addi c0_i32_1878 v2338
  v2339.toNat
def k0_dev39 (d0 : Dev nD) : Nat :=
  let c0_i32_1891 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1882 : BitVec 32 := 4#32
  let v2347 : BitVec 32 := Scalar.addi v2 c4_i32_1882
  let c8_i32_1883 : BitVec 32 := 8#32
  let c0_i32_1884 : BitVec 32 := 0#32
  let v2348 : BitVec 1 := Scalar.cmpi .eq c8_i32_1883 c0_i32_1884
  let c1_i32_1885 : BitVec 32 := 1#32
  let v2349 : BitVec 32 := Scalar.select v2348 c1_i32_1885 c8_i32_1883
  let v2350 : BitVec 32 := Scalar.remsi v2347 v2349
  let c0_i32_1887 : BitVec 32 := 0#32
  let v2352 : BitVec 1 := Scalar.cmpi .slt v2350 c0_i32_1887
  let c0_i32_1888 : BitVec 32 := 0#32
  let v2353 : BitVec 1 := Scalar.cmpi .slt v2349 c0_i32_1888
  let v2354 : BitVec 1 := Scalar.xori v2352 v2353
  let c0_i32_1886 : BitVec 32 := 0#32
  let v2351 : BitVec 1 := Scalar.cmpi .ne v2350 c0_i32_1886
  let v2355 : BitVec 1 := Scalar.andi v2354 v2351
  let v2356 : BitVec 32 := Scalar.addi v2350 v2349
  let v2357 : BitVec 32 := Scalar.select v2355 v2356 v2350
  let c1_i32_1890 : BitVec 32 := 1#32
  let v2359 : BitVec 32 := Scalar.muli v2357 c1_i32_1890
  let v2360 : BitVec 32 := Scalar.addi c0_i32_1891 v2359
  v2360.toNat
def k0_dev40 (d0 : Dev nD) : Nat :=
  let c0_i32_1904 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1895 : BitVec 32 := 5#32
  let v2368 : BitVec 32 := Scalar.addi v2 c5_i32_1895
  let c8_i32_1896 : BitVec 32 := 8#32
  let c0_i32_1897 : BitVec 32 := 0#32
  let v2369 : BitVec 1 := Scalar.cmpi .eq c8_i32_1896 c0_i32_1897
  let c1_i32_1898 : BitVec 32 := 1#32
  let v2370 : BitVec 32 := Scalar.select v2369 c1_i32_1898 c8_i32_1896
  let v2371 : BitVec 32 := Scalar.remsi v2368 v2370
  let c0_i32_1900 : BitVec 32 := 0#32
  let v2373 : BitVec 1 := Scalar.cmpi .slt v2371 c0_i32_1900
  let c0_i32_1901 : BitVec 32 := 0#32
  let v2374 : BitVec 1 := Scalar.cmpi .slt v2370 c0_i32_1901
  let v2375 : BitVec 1 := Scalar.xori v2373 v2374
  let c0_i32_1899 : BitVec 32 := 0#32
  let v2372 : BitVec 1 := Scalar.cmpi .ne v2371 c0_i32_1899
  let v2376 : BitVec 1 := Scalar.andi v2375 v2372
  let v2377 : BitVec 32 := Scalar.addi v2371 v2370
  let v2378 : BitVec 32 := Scalar.select v2376 v2377 v2371
  let c1_i32_1903 : BitVec 32 := 1#32
  let v2380 : BitVec 32 := Scalar.muli v2378 c1_i32_1903
  let v2381 : BitVec 32 := Scalar.addi c0_i32_1904 v2380
  v2381.toNat
def k0_dev41 (d0 : Dev nD) : Nat :=
  let c0_i32_1917 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1908 : BitVec 32 := 6#32
  let v2389 : BitVec 32 := Scalar.addi v2 c6_i32_1908
  let c8_i32_1909 : BitVec 32 := 8#32
  let c0_i32_1910 : BitVec 32 := 0#32
  let v2390 : BitVec 1 := Scalar.cmpi .eq c8_i32_1909 c0_i32_1910
  let c1_i32_1911 : BitVec 32 := 1#32
  let v2391 : BitVec 32 := Scalar.select v2390 c1_i32_1911 c8_i32_1909
  let v2392 : BitVec 32 := Scalar.remsi v2389 v2391
  let c0_i32_1913 : BitVec 32 := 0#32
  let v2394 : BitVec 1 := Scalar.cmpi .slt v2392 c0_i32_1913
  let c0_i32_1914 : BitVec 32 := 0#32
  let v2395 : BitVec 1 := Scalar.cmpi .slt v2391 c0_i32_1914
  let v2396 : BitVec 1 := Scalar.xori v2394 v2395
  let c0_i32_1912 : BitVec 32 := 0#32
  let v2393 : BitVec 1 := Scalar.cmpi .ne v2392 c0_i32_1912
  let v2397 : BitVec 1 := Scalar.andi v2396 v2393
  let v2398 : BitVec 32 := Scalar.addi v2392 v2391
  let v2399 : BitVec 32 := Scalar.select v2397 v2398 v2392
  let c1_i32_1916 : BitVec 32 := 1#32
  let v2401 : BitVec 32 := Scalar.muli v2399 c1_i32_1916
  let v2402 : BitVec 32 := Scalar.addi c0_i32_1917 v2401
  v2402.toNat
def k0_dev42 (d0 : Dev nD) : Nat :=
  let c0_i32_1930 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1921 : BitVec 32 := 7#32
  let v2410 : BitVec 32 := Scalar.addi v2 c7_i32_1921
  let c8_i32_1922 : BitVec 32 := 8#32
  let c0_i32_1923 : BitVec 32 := 0#32
  let v2411 : BitVec 1 := Scalar.cmpi .eq c8_i32_1922 c0_i32_1923
  let c1_i32_1924 : BitVec 32 := 1#32
  let v2412 : BitVec 32 := Scalar.select v2411 c1_i32_1924 c8_i32_1922
  let v2413 : BitVec 32 := Scalar.remsi v2410 v2412
  let c0_i32_1926 : BitVec 32 := 0#32
  let v2415 : BitVec 1 := Scalar.cmpi .slt v2413 c0_i32_1926
  let c0_i32_1927 : BitVec 32 := 0#32
  let v2416 : BitVec 1 := Scalar.cmpi .slt v2412 c0_i32_1927
  let v2417 : BitVec 1 := Scalar.xori v2415 v2416
  let c0_i32_1925 : BitVec 32 := 0#32
  let v2414 : BitVec 1 := Scalar.cmpi .ne v2413 c0_i32_1925
  let v2418 : BitVec 1 := Scalar.andi v2417 v2414
  let v2419 : BitVec 32 := Scalar.addi v2413 v2412
  let v2420 : BitVec 32 := Scalar.select v2418 v2419 v2413
  let c1_i32_1929 : BitVec 32 := 1#32
  let v2422 : BitVec 32 := Scalar.muli v2420 c1_i32_1929
  let v2423 : BitVec 32 := Scalar.addi c0_i32_1930 v2422
  v2423.toNat
abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S64x2048 : Shape := ⟨2, ![64, 2048]⟩
abbrev S2048x32768 : Shape := ⟨2, ![2048, 32768]⟩
abbrev S32768x2048 : Shape := ⟨2, ![32768, 2048]⟩
abbrev S64x32768 : Shape := ⟨2, ![64, 32768]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S2048x32768, .f32⟩
  | .hbm, ⟨2, _⟩ => ⟨S2048x32768, .f32⟩
  | .hbm, ⟨3, _⟩ => ⟨S2048x32768, .f32⟩
  | .hbm, ⟨4, _⟩ => ⟨S32768x2048, .f32⟩
  | .hbm, ⟨5, _⟩ => ⟨S32768x2048, .f32⟩
  | .hbm, ⟨6, _⟩ => ⟨S32768x2048, .f32⟩
  | .hbm, ⟨7, _⟩ => ⟨S64x32768, .f32⟩
  | .hbm, ⟨8, _⟩ => ⟨S_, .f32⟩
  | .hbm, ⟨9, _⟩ => ⟨S64x32768, .f32⟩
  | .hbm, ⟨10, _⟩ => ⟨S64x32768, .f32⟩
  | .hbm, ⟨11, _⟩ => ⟨S64x2048, .f32⟩
  | .hbm, ⟨12, _⟩ => ⟨S64x32768, .f32⟩
  | .hbm, ⟨13, _⟩ => ⟨S_, .f32⟩
  | .hbm, ⟨14, _⟩ => ⟨S64x32768, .f32⟩
  | .hbm, ⟨15, _⟩ => ⟨S64x32768, .f32⟩
  | .hbm, ⟨16, _⟩ => ⟨S64x2048, .f32⟩
  | .hbm, ⟨17, _⟩ => ⟨S64x32768, .f32⟩
  | .hbm, ⟨18, _⟩ => ⟨S_, .f32⟩
  | .hbm, ⟨19, _⟩ => ⟨S64x32768, .f32⟩
  | .hbm, ⟨20, _⟩ => ⟨S64x32768, .f32⟩
  | .hbm, ⟨21, _⟩ => ⟨S64x2048, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Prog.lean ====
/- The kernel's body by its pieces: the barrier, one tile's two fetches, one step, one reduce-scatter, one
   reduction, one all-gather — each written once, over a step index, a layer index or a distance — and the
   printed body as the sequence of them (`cc0_body_eq`, by unfolding both). -/
module

public import proofs.«01_k».proof.Proof.Gen.KernelIdeal
public import proofs.«01_k».proof.Proof.Gen.KernelIdeal.Skeleton
public import Idealize.ShloMosaic.Lib.Pipeline.Regions

@[expose] public section

noncomputable section

namespace Cert.KernelIdeal.Own

open Idealize.ShloMosaic Idealize.SL.Sem
open Cert.KernelIdeal Cert.KernelIdeal.Gen

variable {F : FTy → Type} [FloatOps F]

/-- The programs of the TensorCore's thread. -/
abbrev P (F : FTy → Type) [FloatOps F] := Prog (TpuEff nD τ sig (Elt F) Λ₀ .tc) PUnit

/-! ## The buffers -/

abbrev xM : Memref sig .tc .vmem S64x2048 .f32 := Memref.whole cc0_stg0_0
abbrev outM : Memref sig .tc .vmem S8x2048 .f32 := Memref.whole cc0_stg1_0
abbrev waM : Memref sig .tc .vmem S3x2048x512 .f32 := Memref.whole cc0_scratch0
abbrev wbM : Memref sig .tc .vmem S3x512x2048 .f32 := Memref.whole cc0_scratch1
abbrev xbM : Memref sig .tc .vmem S64x2048 .bf16 := Memref.whole cc0_scratch4
abbrev accM : Memref sig .tc .vmem S64x2048 .f32 := Memref.whole cc0_scratch5
abbrev sbM : Memref sig .tc .vmem S64x2048 .bf16 := Memref.whole cc0_scratch6
abbrev rsM : Memref sig .tc .vmem S8x8x2048 .bf16 := Memref.whole cc0_scratch7

/-- The layer's first weight: columns cut over the devices. -/
abbrev winM : Fin 3 → Memref sig .tc .hbm S2048x4096 .f32
  | 0 => Memref.whole main_arg1 | 1 => Memref.whole main_arg2 | 2 => Memref.whole main_arg3

/-- The layer's second weight: rows cut over the devices. -/
abbrev woutM : Fin 3 → Memref sig .tc .hbm S4096x2048 .f32
  | 0 => Memref.whole main_arg4 | 1 => Memref.whole main_arg5 | 2 => Memref.whole main_arg6

/-! ## Steps: layer, tile, slot -/

abbrev kOf (t : Fin 24) : Fin 3 := ⟨t.val / 8, by omega⟩
abbrev jOf (t : Fin 24) : Fin 8 := ⟨t.val % 8, by omega⟩
abbrev sOf (t : Fin 24) : Fin 3 := ⟨t.val % 3, by omega⟩

theorem inb_slot (s : Fin 3) : ∀ a, (![s.val] : Fin 1 → Nat) a + S1.size a ≤ S3.size a := by
  revert s; decide
theorem inb_slotA (s : Fin 3) : ∀ a, (![s.val, 0, 0] : Fin 3 → Nat) a + S1x2048x512.size a ≤ S3x2048x512.size a := by
  revert s; decide
theorem inb_slotB (s : Fin 3) : ∀ a, (![s.val, 0, 0] : Fin 3 → Nat) a + S1x512x2048.size a ≤ S3x512x2048.size a := by
  revert s; decide
theorem inb_srcA (j : Fin 8) : ∀ a, (![0, 512 * j.val] : Fin 2 → Nat) a + S2048x512.size a ≤ S2048x4096.size a := by
  revert j; decide
theorem inb_srcB (j : Fin 8) : ∀ a, (![512 * j.val, 0] : Fin 2 → Nat) a + S512x2048.size a ≤ S4096x2048.size a := by
  revert j; decide

/-- Slot `s`'s semaphore of the first weight's fetches, -/
abbrev semA (s : Fin 3) : DmaSem sig :=
  ((cc0_scratch2.slice (Rect.unit (s := S3) ![s.val] S1.size (inb_slot s))).squeeze S_ squeezes_S1_S_ : DmaSems sig S_).sem
/-- of the second's, -/
abbrev semB (s : Fin 3) : DmaSem sig :=
  ((cc0_scratch3.slice (Rect.unit (s := S3) ![s.val] S1.size (inb_slot s))).squeeze S_ squeezes_S1_S_ : DmaSems sig S_).sem
/-- its buffer for the first weight's tile, -/
abbrev slotA (s : Fin 3) : Memref sig .tc .vmem S2048x512 .f32 :=
  (waM.slice (Rect.unit (s := S3x2048x512) ![s.val, 0, 0] S1x2048x512.size (inb_slotA s)) (fun _ => rfl)).squeeze S2048x512
    squeezes_S1x2048x512_S2048x512
/-- for the second's. -/
abbrev slotB (s : Fin 3) : Memref sig .tc .vmem S512x2048 .f32 :=
  (wbM.slice (Rect.unit (s := S3x512x2048) ![s.val, 0, 0] S1x512x2048.size (inb_slotB s)) (fun _ => rfl)).squeeze S512x2048
    squeezes_S1x512x2048_S512x2048
/-- Tile `j` of the first weight (512 columns), -/
abbrev srcA (k : Fin 3) (j : Fin 8) : Memref sig .tc .hbm S2048x512 .f32 :=
  (winM k).slice (Rect.unit (s := S2048x4096) ![0, 512 * j.val] S2048x512.size (inb_srcA j)) (fun _ => rfl)
/-- of the second (512 rows). -/
abbrev srcB (k : Fin 3) (j : Fin 8) : Memref sig .tc .hbm S512x2048 .f32 :=
  (woutM k).slice (Rect.unit (s := S4096x2048) ![512 * j.val, 0] S512x2048.size (inb_srcB j)) (fun _ => rfl)

/-- The fetch of step `t`'s two tiles into their slot. -/
def fetchP (t : Fin 24) : P F := do
  Prog.lift (.enqueueDma (srcA (kOf t) (jOf t)) (.here (slotA (sOf t))) (.dma (semA (sOf t))) (View.wordExact_bits rfl) ((View.wordExact_bits rfl).reshape _ _) ⟨Or.inl rfl, trivial⟩)
  Prog.lift (.enqueueDma (srcB (kOf t) (jOf t)) (.here (slotB (sOf t))) (.dma (semB (sOf t))) (View.wordExact_bits rfl) ((View.wordExact_bits rfl).reshape _ _) ⟨Or.inl rfl, trivial⟩)

/-- The wait for them. -/
def awaitP (t : Fin 24) : P F := do
  Prog.lift (.waitDma2 (semA (sOf t)) (srcA (kOf t) (jOf t)) (slotA (sOf t)) (View.wordExact_bits rfl) ((View.wordExact_bits rfl).reshape _ _))
  Prog.lift (.waitDma2 (semB (sOf t)) (srcB (kOf t) (jOf t)) (slotB (sOf t)) (View.wordExact_bits rfl) ((View.wordExact_bits rfl).reshape _ _))

/-- The whole of a 64 by 2048 buffer, as loads and stores name it. -/
abbrev R64 : Rect S64x2048 := Rect.unit (s := S64x2048) ![0, 0] S64x2048.size inb_S64x2048_S64x2048_0_0
abbrev R8 : Rect S8x2048 := Rect.unit (s := S8x2048) ![0, 0] S8x2048.size inb_S8x2048_S8x2048_0_0
abbrev RA (s : Fin 3) : Rect S3x2048x512 := Rect.unit (s := S3x2048x512) ![s.val, 0, 0] S1x2048x512.size (inb_slotA s)
abbrev RB (s : Fin 3) : Rect S3x512x2048 := Rect.unit (s := S3x512x2048) ![s.val, 0, 0] S1x512x2048.size (inb_slotB s)

/-- The step's product: the first tile of a layer writes it, -/
def firstPay (x : Vec F S64x2048 .bf16) (wa : Vec F S1x2048x512 .f32) (wb : Vec F S1x512x2048 .f32) : FVec F S64x2048 .f32 :=
  k0_pay18 x wa wb
/-- a later one adds it. -/
def nextPay (x : Vec F S64x2048 .bf16) (wa : Vec F S1x2048x512 .f32) (wb : Vec F S1x512x2048 .f32) (acc : Vec F S64x2048 .f32) :
    FVec F S64x2048 .f32 := k0_pay5 x wa wb acc

/-- The arithmetic of step `t` on the tiles fetched. -/
def mathP (t : Fin 24) : P F := do
  let x : Vec F S64x2048 .bf16 ← Prog.lift (.load xbM R64.toLoadRect (View.loadsAt_vmem h_S64x2048))
  let wa : Vec F S1x2048x512 .f32 ← Prog.lift (.load waM (RA (sOf t)).toLoadRect (View.loadsAt_vmem h_S1x2048x512))
  let wb : Vec F S1x512x2048 .f32 ← Prog.lift (.load wbM (RB (sOf t)).toLoadRect (View.loadsAt_vmem h_S1x512x2048))
  if t.val % 8 = 0 then do
    let _ : Vec F S64x2048 .f32 ← Prog.lift (.load accM R64.toLoadRect (View.loadsAt_vmem h_S64x2048))
    Prog.lift (.store accM R64 (firstPay x wa wb) Finset.univ (View.stores_vmem_bits_univ h_S64x2048 rfl) (.inl rfl))
  else do
    let a : Vec F S64x2048 .f32 ← Prog.lift (.load accM R64.toLoadRect (View.loadsAt_vmem h_S64x2048))
    let _ : Vec F S64x2048 .f32 ← Prog.lift (.load accM R64.toLoadRect (View.loadsAt_vmem h_S64x2048))
    Prog.lift (.store accM R64 (nextPay x wa wb a) Finset.univ (View.stores_vmem_bits_univ h_S64x2048 rfl) (.inl rfl))

/-- Step `t`: the fetch of the tiles two ahead, the wait for its own, its arithmetic. -/
def stepP (t : Fin 24) : P F := do
  if h : t.val + 2 < 24 then fetchP ⟨t.val + 2, h⟩ else pure ⟨⟩
  awaitP t
  mathP t

/-- Steps in order. -/
def seqP {α : Type} (f : α → P F) : List α → P F
  | [] => pure ⟨⟩
  | a :: l => do f a; seqP f l

/-- The distances to the seven other devices. -/
abbrev dists : List (Fin 7) := [0, 1, 2, 3, 4, 5, 6]

/-- Layer `k`'s steps. -/
abbrev stepsOf (k : Fin 3) : List (Fin 24) :=
  [⟨8 * k.val, by omega⟩, ⟨8 * k.val + 1, by omega⟩, ⟨8 * k.val + 2, by omega⟩, ⟨8 * k.val + 3, by omega⟩,
   ⟨8 * k.val + 4, by omega⟩, ⟨8 * k.val + 5, by omega⟩, ⟨8 * k.val + 6, by omega⟩, ⟨8 * k.val + 7, by omega⟩]

/-! ## The peers, as the program computes them -/

abbrev devBar (d0 : Dev nD) : Fin 7 → Dev nD
  | 0 => ⟨k0_dev1 d0, k0_dev1_lt d0⟩ | 1 => ⟨k0_dev2 d0, k0_dev2_lt d0⟩ | 2 => ⟨k0_dev3 d0, k0_dev3_lt d0⟩
  | 3 => ⟨k0_dev4 d0, k0_dev4_lt d0⟩ | 4 => ⟨k0_dev5 d0, k0_dev5_lt d0⟩ | 5 => ⟨k0_dev6 d0, k0_dev6_lt d0⟩
  | 6 => ⟨k0_dev7 d0, k0_dev7_lt d0⟩

abbrev devRS (d0 : Dev nD) : Fin 3 → Fin 7 → Dev nD
  | 0 => fun
    | 0 => ⟨k0_dev8 d0, k0_dev8_lt d0⟩ | 1 => ⟨k0_dev9 d0, k0_dev9_lt d0⟩ | 2 => ⟨k0_dev10 d0, k0_dev10_lt d0⟩
    | 3 => ⟨k0_dev11 d0, k0_dev11_lt d0⟩ | 4 => ⟨k0_dev12 d0, k0_dev12_lt d0⟩ | 5 => ⟨k0_dev13 d0, k0_dev13_lt d0⟩
    | 6 => ⟨k0_dev14 d0, k0_dev14_lt d0⟩
  | 1 => fun
    | 0 => ⟨k0_dev22 d0, k0_dev22_lt d0⟩ | 1 => ⟨k0_dev23 d0, k0_dev23_lt d0⟩ | 2 => ⟨k0_dev24 d0, k0_dev24_lt d0⟩
    | 3 => ⟨k0_dev25 d0, k0_dev25_lt d0⟩ | 4 => ⟨k0_dev26 d0, k0_dev26_lt d0⟩ | 5 => ⟨k0_dev27 d0, k0_dev27_lt d0⟩
    | 6 => ⟨k0_dev28 d0, k0_dev28_lt d0⟩
  | 2 => fun
    | 0 => ⟨k0_dev36 d0, k0_dev36_lt d0⟩ | 1 => ⟨k0_dev37 d0, k0_dev37_lt d0⟩ | 2 => ⟨k0_dev38 d0, k0_dev38_lt d0⟩
    | 3 => ⟨k0_dev39 d0, k0_dev39_lt d0⟩ | 4 => ⟨k0_dev40 d0, k0_dev40_lt d0⟩ | 5 => ⟨k0_dev41 d0, k0_dev41_lt d0⟩
    | 6 => ⟨k0_dev42 d0, k0_dev42_lt d0⟩

abbrev devAG (d0 : Dev nD) : Fin 2 → Fin 7 → Dev nD
  | 0 => fun
    | 0 => ⟨k0_dev15 d0, k0_dev15_lt d0⟩ | 1 => ⟨k0_dev16 d0, k0_dev16_lt d0⟩ | 2 => ⟨k0_dev17 d0, k0_dev17_lt d0⟩
    | 3 => ⟨k0_dev18 d0, k0_dev18_lt d0⟩ | 4 => ⟨k0_dev19 d0, k0_dev19_lt d0⟩ | 5 => ⟨k0_dev20 d0, k0_dev20_lt d0⟩
    | 6 => ⟨k0_dev21 d0, k0_dev21_lt d0⟩
  | 1 => fun
    | 0 => ⟨k0_dev29 d0, k0_dev29_lt d0⟩ | 1 => ⟨k0_dev30 d0, k0_dev30_lt d0⟩ | 2 => ⟨k0_dev31 d0, k0_dev31_lt d0⟩
    | 3 => ⟨k0_dev32 d0, k0_dev32_lt d0⟩ | 4 => ⟨k0_dev33 d0, k0_dev33_lt d0⟩ | 5 => ⟨k0_dev34 d0, k0_dev34_lt d0⟩
    | 6 => ⟨k0_dev35 d0, k0_dev35_lt d0⟩

/-! ## The communication -/

/-- The word of distance `r + 1`. -/
abbrev distW (r : Fin 7) : BitVec 32 := BitVec.ofNat 32 (1 + r.val)

/-- The barrier semaphore. -/
abbrev barS : Sem sig := (SemArray.scalar (sig.barrier 0 rfl) : Sems sig S_).sem

/-- An array's semaphore at the peer of distance `r + 1`, -/
abbrev semAt (A : DmaSems sig S8) (d0 : Dev nD) (r : Fin 7) : DmaSem sig :=
  ((A.slice (Rect.unit (s := S8) (k0_off1 d0 (distW r)) S1.size (k0_off1_inb d0 r))).squeeze S_ squeezes_S1_S_ : DmaSems sig S_).sem
/-- at the device itself. -/
abbrev semMy (A : DmaSems sig S8) (d0 : Dev nD) : DmaSem sig :=
  ((A.slice (Rect.unit (s := S8) (k0_off2 d0) S1.size (k0_off2_inb d0))).squeeze S_ squeezes_S1_S_ : DmaSems sig S_).sem

/-- The receive buffer's slot named by the device itself, -/
abbrev rsMy (d0 : Dev nD) : Memref sig .tc .vmem S8x2048 .bf16 :=
  (rsM.slice (Rect.unit (s := S8x8x2048) (k0_off3 d0) S1x8x2048.size (k0_off3_inb d0)) (fun _ => rfl)).squeeze S8x2048 squeezes_S1x8x2048_S8x2048
/-- by the peer. -/
abbrev rsAt (d0 : Dev nD) (r : Fin 7) : Memref sig .tc .vmem S8x2048 .bf16 :=
  (rsM.slice (Rect.unit (s := S8x8x2048) (k0_off5 d0 (distW r)) S1x8x2048.size (k0_off5_inb d0 r)) (fun _ => rfl)).squeeze S8x2048 squeezes_S1x8x2048_S8x2048
/-- The peer's rows of the send buffer, -/
abbrev sbAt (d0 : Dev nD) (r : Fin 7) : Memref sig .tc .vmem S8x2048 .bf16 :=
  sbM.slice (Rect.unit (s := S64x2048) (k0_off4 d0 (distW r)) S8x2048.size (k0_off4_inb d0 r)) (fun _ => rfl)
/-- of the activations, -/
abbrev xbAt (d0 : Dev nD) (r : Fin 7) : Memref sig .tc .vmem S8x2048 .bf16 :=
  xbM.slice (Rect.unit (s := S64x2048) (k0_off4 d0 (distW r)) S8x2048.size (k0_off4_inb d0 r)) (fun _ => rfl)
/-- the device's own rows of them. -/
abbrev xbMy (d0 : Dev nD) : Memref sig .tc .vmem S8x2048 .bf16 :=
  xbM.slice (Rect.unit (s := S64x2048) (k0_off7 d0) S8x2048.size (k0_off7_inb d0)) (fun _ => rfl)

def barSendP (d0 : Dev nD) (r : Fin 7) : P F := semSignalWord (devBar d0 r) barS 1#32

/-- The barrier: a signal to each peer, the wait for theirs. -/
def barrierP (d0 : Dev nD) : P F := do
  seqP (barSendP d0) dists
  semWaitWord barS 7#32

def rsSendP (d0 : Dev nD) (k : Fin 3) (r : Fin 7) : P F :=
  Prog.lift (.enqueueDma (sbAt d0 r) (.remote (Dev.tc (devRS d0 k r)) (rsMy d0) (.dma (semAt cc0_scratch8 d0 r))) (.dma (semMy cc0_scratch9 d0)) ((Memref.isWhole_whole cc0_scratch6).wordExact_slice rfl _ (k0_off4_wordsbf16 d0 r)) (((Memref.isWhole_whole cc0_scratch7).wordExact_slice rfl _ (k0_off3_wordsbf16 d0)).reshape _ _) ⟨⟨rfl, Or.inl rfl⟩, trivial⟩)

def rsRecvP (d0 : Dev nD) (r : Fin 7) : P F :=
  Prog.lift (.waitDma2 (semAt cc0_scratch9 d0 r) (sbAt d0 r) (rsAt d0 r) ((Memref.isWhole_whole cc0_scratch6).wordExact_slice rfl _ (k0_off4_wordsbf16 d0 r)) (((Memref.isWhole_whole cc0_scratch7).wordExact_slice rfl _ (k0_off5_wordsbf16 d0 r)).reshape _ _))

def rsDoneP (d0 : Dev nD) (r : Fin 7) : P F :=
  Prog.lift (.waitDma2 (semAt cc0_scratch8 d0 r) (rsMy d0) (sbAt d0 r) (((Memref.isWhole_whole cc0_scratch7).wordExact_slice rfl _ (k0_off3_wordsbf16 d0)).reshape _ _) ((Memref.isWhole_whole cc0_scratch6).wordExact_slice rfl _ (k0_off4_wordsbf16 d0 r)))

/-- The layer's partial sums, rounded, into the send buffer. -/
def packP : P F := do
  let a : Vec F S64x2048 .f32 ← Prog.lift (.load accM R64.toLoadRect (View.loadsAt_vmem h_S64x2048))
  let _ : Vec F S64x2048 .bf16 ← Prog.lift (.load sbM R64.toLoadRect (View.loadsAt_vmem h_S64x2048))
  Prog.lift (.store sbM R64 (k0_pay15 a) Finset.univ (View.stores_vmem h_S64x2048 ((Memref.isWhole_whole cc0_scratch6).storeExact_slice rfl _ packedbf16_S64x2048_S64x2048_0_0) (fun _ => rfl)) (.inl rfl))

/-- The exchange of the partial sums. -/
def rsP (d0 : Dev nD) (k : Fin 3) : P F := do
  packP
  seqP (rsSendP d0 k) dists
  seqP (rsRecvP d0) dists
  seqP (rsDoneP d0) dists

/-- The device's number, as the program derives it. -/
abbrev myW (d0 : Dev nD) : BitVec 32 := Scalar.remsi (Scalar.divsi (Dev.word d0) 1#32) 8#32

/-- The device's own rows of a 64 by 2048 buffer. -/
abbrev R6 (d0 : Dev nD) : Rect S64x2048 := Rect.unit (s := S64x2048) (k0_off6 d0) S8x2048.size (k0_off6_inb d0)
abbrev R8x8 : Rect S8x8x2048 := Rect.unit (s := S8x8x2048) ![0, 0, 0] S8x8x2048.size inb_S8x8x2048_S8x8x2048_0_0_0

/-- The sum of the received rows and the device's own, rounded, into its rows of the activations. -/
def reduceP (d0 : Dev nD) : P F := do
  let rs : Vec F S8x8x2048 .bf16 ← Prog.lift (.load rsM R8x8.toLoadRect (View.loadsAt_vmem h_S8x8x2048))
  let a : Vec F S8x2048 .f32 ← Prog.lift (.load accM (R6 d0).toLoadRect (View.loadsAt_vmem h_S8x2048))
  let _ : Vec F S8x2048 .bf16 ← Prog.lift (.load xbM (R6 d0).toLoadRect (View.loadsAt_vmem h_S8x2048))
  Prog.lift (.store xbM (R6 d0) (k0_pay17 (k0_pay16 (myW d0)) rs a) Finset.univ (View.stores_vmem h_S8x2048 ((Memref.isWhole_whole cc0_scratch4).storeExact_slice rfl _ (k0_off6_packedbf16 d0)) (fun _ => rfl)) (.inl rfl))

/-- The last layer's sum, unrounded, into the result. -/
def finishP (d0 : Dev nD) : P F := do
  let rs : Vec F S8x8x2048 .bf16 ← Prog.lift (.load rsM R8x8.toLoadRect (View.loadsAt_vmem h_S8x8x2048))
  let a : Vec F S8x2048 .f32 ← Prog.lift (.load accM (R6 d0).toLoadRect (View.loadsAt_vmem h_S8x2048))
  let _ : Vec F S8x2048 .f32 ← Prog.lift (.load outM R8.toLoadRect (View.loadsAt_vmem h_S8x2048))
  Prog.lift (.store outM R8 (k0_pay1 (k0_pay16 (myW d0)) rs a) Finset.univ (View.stores_vmem_bits_univ h_S8x2048 rfl) (.inl rfl))

def agSendP (d0 : Dev nD) (k : Fin 2) (r : Fin 7) : P F :=
  Prog.lift (.enqueueDma (xbMy d0) (.remote (Dev.tc (devAG d0 k r)) (xbMy d0) (.dma (semAt cc0_scratch10 d0 r))) (.dma (semMy cc0_scratch11 d0)) ((Memref.isWhole_whole cc0_scratch4).wordExact_slice rfl _ (k0_off7_wordsbf16 d0)) ((Memref.isWhole_whole cc0_scratch4).wordExact_slice rfl _ (k0_off7_wordsbf16 d0)) ⟨⟨rfl, Or.inl rfl⟩, trivial⟩)

def agRecvP (d0 : Dev nD) (r : Fin 7) : P F :=
  Prog.lift (.waitDma2 (semAt cc0_scratch11 d0 r) (xbAt d0 r) (xbAt d0 r) ((Memref.isWhole_whole cc0_scratch4).wordExact_slice rfl _ (k0_off4_wordsbf16 d0 r)) ((Memref.isWhole_whole cc0_scratch4).wordExact_slice rfl _ (k0_off4_wordsbf16 d0 r)))

def agDoneP (d0 : Dev nD) (r : Fin 7) : P F :=
  Prog.lift (.waitDma2 (semAt cc0_scratch10 d0 r) (xbMy d0) (xbMy d0) ((Memref.isWhole_whole cc0_scratch4).wordExact_slice rfl _ (k0_off7_wordsbf16 d0)) ((Memref.isWhole_whole cc0_scratch4).wordExact_slice rfl _ (k0_off7_wordsbf16 d0)))

/-- The exchange of the rounded sums. -/
def agP (d0 : Dev nD) (k : Fin 2) : P F := do
  seqP (agSendP d0 k) dists
  seqP (agRecvP d0) dists
  seqP (agDoneP d0) dists

/-- The input, rounded, into the activations. -/
def loadXP : P F := do
  let x : Vec F S64x2048 .f32 ← Prog.lift (.load xM R64.toLoadRect (View.loadsAt_vmem h_S64x2048))
  let _ : Vec F S64x2048 .bf16 ← Prog.lift (.load xbM R64.toLoadRect (View.loadsAt_vmem h_S64x2048))
  Prog.lift (.store xbM R64 (k0_pay2 x) Finset.univ (View.stores_vmem h_S64x2048 ((Memref.isWhole_whole cc0_scratch4).storeExact_slice rfl _ packedbf16_S64x2048_S64x2048_0_0) (fun _ => rfl)) (.inl rfl))

/-- A layer whose sum the devices gather again. -/
def layerP (d0 : Dev nD) (k : Fin 3) (k' : Fin 2) : P F := do
  seqP stepP (stepsOf k)
  rsP d0 k
  reduceP d0
  agP d0 k'

/-- The body on device `d0`. -/
def bodyAtP (d0 : Dev nD) : P F := do
  barrierP d0
  fetchP 0
  fetchP 1
  loadXP
  layerP d0 0 0
  layerP d0 1 1
  seqP stepP (stepsOf 2)
  rsP d0 2
  finishP d0

/-- The body. -/
def bodyP : P F := do
  let d0 ← Prog.lift .deviceId
  bodyAtP d0

set_option maxRecDepth 65536 in
/-- The printed body is the sequence of the pieces. -/
theorem cc0_body_eq :
    cc0_body (F := F) xM (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _) outM (Memref.isWhole_whole _) waM (Memref.isWhole_whole _) wbM (Memref.isWhole_whole _) cc0_scratch2 cc0_scratch3 xbM (Memref.isWhole_whole _) accM (Memref.isWhole_whole _) sbM (Memref.isWhole_whole _) rsM (Memref.isWhole_whole _) cc0_scratch8 cc0_scratch9 cc0_scratch10 cc0_scratch11 = bodyP := by
  chain_rfl

end Cert.KernelIdeal.Own
-- ==== Proof.Geo.lean ====
/- The mesh and the buffers' parts: the peer at a distance, the printed offsets and device numbers in its terms,
   the row blocks of the 64 by 2048 buffers and the slots of the receive buffer, and how a buffer splits into them. -/
module

public import proofs.«01_k».proof.Proof.Prog
public import Idealize.ShloMosaic.Lib.Memref
public import Idealize.ShloMosaic.Lib.Tactic

@[expose] public section

noncomputable section

namespace Cert.KernelIdeal.Own

open Idealize.ShloMosaic Idealize.SL Idealize.SL.RA Idealize.SL.BI
open scoped Idealize.SL.BI
open Idealize.SL.BI.BIBase Idealize.SL.BI.Laws Idealize.SL.ProofMode Idealize.SL.Sem
open Idealize.ShloMosaic.TcCoe
open Cert.KernelIdeal Cert.KernelIdeal.Gen

/-! ## Peers -/

/-- The device `r + 1` places after `d`. -/
def peer (d : Dev nD) (r : Fin 7) : Dev nD := ⟨(d.val + r.val + 1) % 8, Nat.mod_lt _ (by decide)⟩

theorem peer_ne (d : Dev nD) (r : Fin 7) : peer d r ≠ d := by revert d r; decide
theorem peer_inj (d : Dev nD) : Function.Injective (peer d) := by revert d; decide
theorem peers_eq (d : Dev nD) : (Finset.univ : Finset (Fin 7)).map ⟨peer d, peer_inj d⟩ = Finset.univ.erase d := by
  revert d; decide

theorem devBar_eq (d : Dev nD) (r : Fin 7) : devBar d r = peer d r := by revert d r; decide +kernel
theorem devRS_eq (d : Dev nD) (k : Fin 3) (r : Fin 7) : devRS d k r = peer d r := by revert d k r; decide +kernel
theorem devAG_eq (d : Dev nD) (k : Fin 2) (r : Fin 7) : devAG d k r = peer d r := by revert d k r; decide +kernel

theorem off1_eq (d : Dev nD) (r : Fin 7) : k0_off1 d (distW r) = ![(peer d r).val] := by revert d r; decide +kernel
theorem off4_eq (d : Dev nD) (r : Fin 7) : k0_off4 d (distW r) = ![8 * (peer d r).val, 0] := by revert d r; decide +kernel
theorem off5_eq (d : Dev nD) (r : Fin 7) : k0_off5 d (distW r) = ![(peer d r).val, 0, 0] := by revert d r; decide +kernel
theorem off2_eq (d : Dev nD) : k0_off2 d = ![d.val] := by revert d; decide +kernel
theorem off3_eq (d : Dev nD) : k0_off3 d = ![d.val, 0, 0] := by revert d; decide +kernel
theorem off6_eq (d : Dev nD) : k0_off6 d = ![8 * d.val, 0] := by revert d; decide +kernel
theorem off7_eq (d : Dev nD) : k0_off7 d = ![8 * d.val, 0] := by revert d; decide +kernel

/-! ## The parts -/

theorem inb_row (s : Fin 8) : ∀ a, (![8 * s.val, 0] : Fin 2 → Nat) a + S8x2048.size a ≤ S64x2048.size a := by
  revert s; decide
theorem inb_rslot (s : Fin 8) : ∀ a, (![s.val, 0, 0] : Fin 3 → Nat) a + S1x8x2048.size a ≤ S8x8x2048.size a := by
  revert s; decide
theorem inb_sem (s : Fin 8) : ∀ a, (![s.val] : Fin 1 → Nat) a + S1.size a ≤ S8.size a := by
  revert s; decide

/-- Rows `8 s` to `8 s + 7`. -/
abbrev RR (s : Fin 8) : Rect S64x2048 := Rect.unit (s := S64x2048) ![8 * s.val, 0] S8x2048.size (inb_row s)
/-- Slot `s` of the receive buffer. -/
abbrev RS (s : Fin 8) : Rect S8x8x2048 := Rect.unit (s := S8x8x2048) ![s.val, 0, 0] S1x8x2048.size (inb_rslot s)

abbrev xbRow (s : Fin 8) : Memref sig .tc .vmem S8x2048 .bf16 := xbM.slice (RR s) (fun _ => rfl)
abbrev sbRow (s : Fin 8) : Memref sig .tc .vmem S8x2048 .bf16 := sbM.slice (RR s) (fun _ => rfl)
abbrev rsSlot (s : Fin 8) : Memref sig .tc .vmem S8x2048 .bf16 :=
  (rsM.slice (RS s) (fun _ => rfl)).squeeze S8x2048 squeezes_S1x8x2048_S8x2048
abbrev semOf (A : DmaSems sig S8) (s : Fin 8) : DmaSem sig :=
  ((A.slice (Rect.unit (s := S8) ![s.val] S1.size (inb_sem s))).squeeze S_ squeezes_S1_S_ : DmaSems sig S_).sem

section
variable {s : Shape} {e : EltTy} {sp : Space}

theorem unit_eq {s : Shape} {size o o' : Fin s.rank → Nat} {h : ∀ a, o a + size a ≤ s.size a} {h' : ∀ a, o' a + size a ≤ s.size a}
    (ho : o = o') : Rect.unit (s := s) o size h = Rect.unit (s := s) o' size h' := by subst ho; rfl
end

theorem sbAt_eq (d : Dev nD) (r : Fin 7) : sbAt d r = sbRow (peer d r) := by
  have h := off4_eq d r
  show sbM.slice (Rect.unit (s := S64x2048) (k0_off4 d (distW r)) S8x2048.size (k0_off4_inb d r)) _ = _
  generalize k0_off4_inb d r = i
  revert i; rw [h]; intro i; rfl
theorem xbAt_eq (d : Dev nD) (r : Fin 7) : xbAt d r = xbRow (peer d r) := by
  have h := off4_eq d r
  show xbM.slice (Rect.unit (s := S64x2048) (k0_off4 d (distW r)) S8x2048.size (k0_off4_inb d r)) _ = _
  generalize k0_off4_inb d r = i
  revert i; rw [h]; intro i; rfl
theorem xbMy_eq (d : Dev nD) : xbMy d = xbRow d := by
  have h := off7_eq d
  show xbM.slice (Rect.unit (s := S64x2048) (k0_off7 d) S8x2048.size (k0_off7_inb d)) _ = _
  generalize k0_off7_inb d = i
  revert i; rw [h]; intro i; rfl
theorem rsMy_eq (d : Dev nD) : rsMy d = rsSlot d := by
  have h := off3_eq d
  show (rsM.slice (Rect.unit (s := S8x8x2048) (k0_off3 d) S1x8x2048.size (k0_off3_inb d)) _).squeeze _ _ = _
  generalize k0_off3_inb d = i
  revert i; rw [h]; intro i; rfl
theorem rsAt_eq (d : Dev nD) (r : Fin 7) : rsAt d r = rsSlot (peer d r) := by
  have h := off5_eq d r
  show (rsM.slice (Rect.unit (s := S8x8x2048) (k0_off5 d (distW r)) S1x8x2048.size (k0_off5_inb d r)) _).squeeze _ _ = _
  generalize k0_off5_inb d r = i
  revert i; rw [h]; intro i; rfl
theorem R6_eq (d : Dev nD) : R6 d = RR d := by
  have h := off6_eq d
  show Rect.unit (s := S64x2048) (k0_off6 d) S8x2048.size (k0_off6_inb d) = _
  generalize k0_off6_inb d = i
  revert i; rw [h]; intro i; rfl
theorem semAt_eq (A : DmaSems sig S8) (d : Dev nD) (r : Fin 7) : semAt A d r = semOf A (peer d r) := by
  have h := off1_eq d r
  show ((A.slice (Rect.unit (s := S8) (k0_off1 d (distW r)) S1.size (k0_off1_inb d r))).squeeze S_ squeezes_S1_S_ : DmaSems sig S_).sem = _
  generalize k0_off1_inb d r = i
  revert i; rw [h]; intro i; rfl
theorem semMy_eq (A : DmaSems sig S8) (d : Dev nD) : semMy A d = semOf A d := by
  have h := off2_eq d
  show ((A.slice (Rect.unit (s := S8) (k0_off2 d) S1.size (k0_off2_inb d))).squeeze S_ squeezes_S1_S_ : DmaSems sig S_).sem = _
  generalize k0_off2_inb d = i
  revert i; rw [h]; intro i; rfl

/-- The arrays' semaphores by number. -/
theorem sem8_eq (s : Fin 8) : semOf cc0_scratch8 s = ⟨8 + s.val, by show 8 + s.val < 40; omega⟩ := by revert s; decide +kernel
theorem sem9_eq (s : Fin 8) : semOf cc0_scratch9 s = ⟨16 + s.val, by show 16 + s.val < 40; omega⟩ := by revert s; decide +kernel
theorem sem10_eq (s : Fin 8) : semOf cc0_scratch10 s = ⟨24 + s.val, by show 24 + s.val < 40; omega⟩ := by revert s; decide +kernel
theorem sem11_eq (s : Fin 8) : semOf cc0_scratch11 s = ⟨32 + s.val, by show 32 + s.val < 40; omega⟩ := by revert s; decide +kernel
theorem semA_eq (s : Fin 3) : semA s = ⟨2 + s.val, by show 2 + s.val < 40; omega⟩ := by revert s; decide +kernel
theorem semB_eq (s : Fin 3) : semB s = ⟨5 + s.val, by show 5 + s.val < 40; omega⟩ := by revert s; decide +kernel

/-! ## Disjoint and covering -/

theorem rows_disjoint : ∀ t t' : Fin 8, t ≠ t' → Disjoint (RR t).set (RR t').set := by
  intro t t' h
  rw [Finset.disjoint_left]
  intro i hi hi'
  rw [Rect.mem_set_unit] at hi hi'
  have h1 := hi 0; have h2 := hi' 0
  simp only [Matrix.cons_val_zero] at h1 h2
  have e : S8x2048.size 0 = 8 := rfl
  exact h (Fin.ext (by omega))
theorem rows_cover : (Finset.univ : Finset (Fin 8)).biUnion (fun t => (RR t).set) = Finset.univ := by
  ext i
  simp only [Finset.mem_biUnion, Finset.mem_univ, true_and, iff_true]
  have h0 : (i 0).val < 64 := (i 0).isLt
  have h1 : (i 1).val < 2048 := (i 1).isLt
  refine ⟨⟨(i 0).val / 8, by omega⟩, Rect.mem_set_unit.mpr fun a => ?_⟩
  fin_cases a
  · show 8 * ((i 0).val / 8) ≤ (i 0).val ∧ (i 0).val < 8 * ((i 0).val / 8) + 8
    omega
  · show 0 ≤ (i 1).val ∧ (i 1).val < 0 + 2048
    omega

theorem rslots_disjoint : ∀ t t' : Fin 8, t ≠ t' → Disjoint (RS t).set (RS t').set := by
  intro t t' h
  rw [Finset.disjoint_left]
  intro i hi hi'
  rw [Rect.mem_set_unit] at hi hi'
  have h1 := hi 0; have h2 := hi' 0
  simp only [Matrix.cons_val_zero] at h1 h2
  have e : S1x8x2048.size 0 = 1 := rfl
  exact h (Fin.ext (by omega))
theorem rslots_cover : (Finset.univ : Finset (Fin 8)).biUnion (fun t => (RS t).set) = Finset.univ := by
  ext i
  simp only [Finset.mem_biUnion, Finset.mem_univ, true_and, iff_true]
  have h0 : (i 0).val < 8 := (i 0).isLt
  have h1 : (i 1).val < 8 := (i 1).isLt
  have h2 : (i 2).val < 2048 := (i 2).isLt
  refine ⟨⟨(i 0).val, by omega⟩, Rect.mem_set_unit.mpr fun a => ?_⟩
  fin_cases a
  · show (i 0).val ≤ (i 0).val ∧ (i 0).val < (i 0).val + 1
    omega
  · show 0 ≤ (i 1).val ∧ (i 1).val < 0 + 8
    omega
  · show 0 ≤ (i 2).val ∧ (i 2).val < 0 + 2048
    omega

theorem slotsA_disjoint : ∀ t t' : Fin 3, t ≠ t' → Disjoint (RA t).set (RA t').set := by
  intro t t' h
  rw [Finset.disjoint_left]
  intro i hi hi'
  rw [Rect.mem_set_unit] at hi hi'
  have h1 := hi 0; have h2 := hi' 0
  simp only [Matrix.cons_val_zero] at h1 h2
  have e : S1x2048x512.size 0 = 1 := rfl
  exact h (Fin.ext (by omega))
theorem slotsA_cover : (Finset.univ : Finset (Fin 3)).biUnion (fun t => (RA t).set) = Finset.univ := by
  ext i
  simp only [Finset.mem_biUnion, Finset.mem_univ, true_and, iff_true]
  have h0 : (i 0).val < 3 := (i 0).isLt
  have h1 : (i 1).val < 2048 := (i 1).isLt
  have h2 : (i 2).val < 512 := (i 2).isLt
  refine ⟨⟨(i 0).val, by omega⟩, Rect.mem_set_unit.mpr fun a => ?_⟩
  fin_cases a
  · show (i 0).val ≤ (i 0).val ∧ (i 0).val < (i 0).val + 1
    omega
  · show 0 ≤ (i 1).val ∧ (i 1).val < 0 + 2048
    omega
  · show 0 ≤ (i 2).val ∧ (i 2).val < 0 + 512
    omega

theorem slotsB_disjoint : ∀ t t' : Fin 3, t ≠ t' → Disjoint (RB t).set (RB t').set := by
  intro t t' h
  rw [Finset.disjoint_left]
  intro i hi hi'
  rw [Rect.mem_set_unit] at hi hi'
  have h1 := hi 0; have h2 := hi' 0
  simp only [Matrix.cons_val_zero] at h1 h2
  have e : S1x512x2048.size 0 = 1 := rfl
  exact h (Fin.ext (by omega))
theorem slotsB_cover : (Finset.univ : Finset (Fin 3)).biUnion (fun t => (RB t).set) = Finset.univ := by
  ext i
  simp only [Finset.mem_biUnion, Finset.mem_univ, true_and, iff_true]
  have h0 : (i 0).val < 3 := (i 0).isLt
  have h1 : (i 1).val < 512 := (i 1).isLt
  have h2 : (i 2).val < 2048 := (i 2).isLt
  refine ⟨⟨(i 0).val, by omega⟩, Rect.mem_set_unit.mpr fun a => ?_⟩
  fin_cases a
  · show (i 0).val ≤ (i 0).val ∧ (i 0).val < (i 0).val + 1
    omega
  · show 0 ≤ (i 1).val ∧ (i 1).val < 0 + 512
    omega
  · show 0 ≤ (i 2).val ∧ (i 2).val < 0 + 2048
    omega

end Cert.KernelIdeal.Own
-- ==== Proof.Parts.lean ====
/- The resource algebra, and the rules of the body's loads and stores over owned parts: a row block, a slot, or a whole
   buffer owned at its contents. -/
module

public import proofs.«01_k».proof.Proof.Geo
public import Idealize.ShloMosaic.Lib.Pipeline.Launch
public import Idealize.ShloMosaic.Lib.Pipeline.Kit
public import Idealize.ShloMosaic.Lib.Transfers
public import Idealize.ShloMosaic.Lib.ValueLayout
public import Idealize.ShloMosaic.Lib.Tactic

@[expose] public section

noncomputable section

namespace Cert.KernelIdeal.Own

open Idealize.ShloMosaic Idealize.SL Idealize.SL.RA Idealize.SL.BI
open scoped Idealize.SL.BI
open Idealize.SL.BI.BIBase Idealize.SL.BI.Laws Idealize.SL.ProofMode Idealize.SL.Sem
open Idealize.ShloMosaic.TcCoe
open Idealize.ShloMosaic.Rounds
open Idealize.ShloMosaic.ValueIdx
open Cert.KernelIdeal Cert.KernelIdeal.Gen

variable {F : FTy → Type} [FloatOps F]

/-- The protocol's rounds, a duty named by the device that pays it. -/
abbrev UB : Type := URounds (GSem nD τ sig) (Dev nD)
/-- The user algebra: the pipeline's rounds, the protocol's, and the local transfers' counters. -/
abbrev UU : Type := UR sig nD τ × (UB × Counters)

local notation "𝕄" => MT nD τ sig ℕ (Elt F) ℕ UU ℕ

abbrev EP : Emb (UR sig nD τ) (MT nD τ sig ℕ (Elt F) ℕ UU ℕ) := embL
def ER : Emb UB (MT nD τ sig ℕ (Elt F) ℕ UU ℕ) := (Emb.inl : Emb UB (UB × Counters)).trans embR
instance : (ER (F := F)).LandsIn (upEmb : UEmb _ 𝕄) := by unfold ER; infer_instance
abbrev EC : UEmb Counters (MT nD τ sig ℕ (Elt F) ℕ UU ℕ) := countersEmb

abbrev 𝒱₀ : Variants := Variants.none

/-- The weakest precondition of a piece of the body on device `c`. -/
abbrev wpc (c : Dev nD) (p : P F) (Q : PUnit.{1} → sProp (MT nD τ sig ℕ (Elt F) ℕ UU ℕ)) : sProp 𝕄 :=
  wp frame (wpE (defs₀ (F := F)) 𝒱₀ (c : Thread nD τ) none) Set.univ p Q

section Owned
variable (c : Dev nD) {sp : Space} {sh : Shape} {e : EltTy} (q : PosShare TreeShare)

/-- Owning a part at some contents. -/
def some1 (m : Memref sig .tc sp sh e) : sProp 𝕄 := iprop(∃ X, owns (c : Thread nD τ) m fullShare X)

instance some1_storable (m : Memref sig .tc sp sh e) : BI.Storable (upEmb : UEmb _ 𝕄) (some1 (F := F) c m) := by
  unfold some1; infer_instance

/-- A part that drops a unit axis is owned at its contents in the shorter shape. -/
theorem owns_squeeze (m : Memref sig .tc sp sh e) {s' : Shape} (h : sh.Squeezes s') (X : sh.Idx → Elt F e) :
    (owns (c : Thread nD τ) (m.squeeze s' h) q (fun y => X (Shape.reshapeEquiv h.numel_eq y)) : sProp 𝕄)
      = owns (c : Thread nD τ) m q X := by
  have hset : (m.squeeze s' h).view.set = m.view.set := View.set_reshape _ _
  have hrd (f : m.view.ty.Contents (Elt F)) : (m.squeeze s' h).view.read (Elt F) f
      = fun y => m.view.read (Elt F) f (Shape.reshapeEquiv h.numel_eq y) := rfl
  have h₁ : (owns (c : Thread nD τ) (m.squeeze s' h) q (fun y => X (Shape.reshapeEquiv h.numel_eq y)) : sProp 𝕄)
      ⊢ owns (c : Thread nD τ) m q X := by
    unfold owns
    iintro ⟨%f, %hf, H⟩
    iexists f
    isplitr
    · ipureintro
      funext x
      have := congrFun hf ((Shape.reshapeEquiv h.numel_eq).symm x)
      rw [hrd] at this
      simpa using this
    · rw [← hset]; iexact H
  have h₂ : (owns (c : Thread nD τ) m q X : sProp 𝕄)
      ⊢ owns (c : Thread nD τ) (m.squeeze s' h) q (fun y => X (Shape.reshapeEquiv h.numel_eq y)) := by
    unfold owns
    iintro ⟨%f, %hf, H⟩
    iexists f
    isplitr
    · ipureintro
      rw [hrd, hf]
    · rw [hset]; iexact H
  exact BI.equiv_iff.mp ⟨h₁, h₂⟩

theorem owns_share (m : Memref sig .tc sp sh e) (X : sh.Idx → Elt F e) :
    (owns (c : Thread nD τ) m q X : sProp 𝕄)
      ⊢ iprop(owns (c : Thread nD τ) m q.left X ∗ owns (c : Thread nD τ) m q.right X) := by
  unfold owns
  iintro ⟨%f, %hf, H⟩
  ihave H := (pointsTo_share (PosShare.mem_left_op_right q)).1 $$ H
  icases H with ⟨H1, H2⟩
  isplitl [H1]
  · iexists f; isplitr; · (ipureintro; exact hf)
    iexact H1
  · iexists f; isplitr; · (ipureintro; exact hf)
    iexact H2

variable {Q : PUnit.{1} → sProp (MT nD τ sig ℕ (Elt F) ℕ UU ℕ)}

/-- A load from an owned buffer. -/
theorem ld (m : Memref sig .tc .vmem sh e) (r : Rect sh) {hl : m.view.LoadsAt r.toLoadRect} {X : sh.Idx → Elt F e}
    {k : (r.toLoadRect.shape.Idx → Elt F e) → P F} :
    (owns (c : Thread nD τ) m q X : sProp 𝕄)
      ⊢ iprop((owns (c : Thread nD τ) m q X -∗ wpc c (k (fun y => X (r.emb y))) Q)
        -∗ wpc c (.op (.load m r.toLoadRect hl) k) Q) := by
  unfold owns
  iintro ⟨%f, %hf, H⟩ Hk
  iapply (wp_load 𝒱₀ (c : Thread nD τ) none Set.univ (m := m) (View.setOn_subset_set _ _)) $$ H
  iintro H
  have hv : m.view.readAt (Elt F) r.toLoadRect f = fun y => X (r.emb y) := by
    subst hf; rfl
  rw [hv]
  iapply Hk
  iexists f
  isplitr; · (ipureintro; exact hf)
  iexact H

/-- A load of an owned part. -/
theorem ldPart (m : Memref sig .tc .vmem sh e) (r : Rect sh) (hr : ∀ a, r.stride a = 1) {hl : m.view.LoadsAt r.toLoadRect}
    {X : r.shape.Idx → Elt F e} {k : (r.toLoadRect.shape.Idx → Elt F e) → P F} :
    (owns (c : Thread nD τ) (m.slice r hr) q X : sProp 𝕄)
      ⊢ iprop((owns (c : Thread nD τ) (m.slice r hr) q X -∗ wpc c (k X) Q)
        -∗ wpc c (.op (.load m r.toLoadRect hl) k) Q) := by
  unfold owns
  iintro ⟨%f, %hf, H⟩ Hk
  iapply (wp_load 𝒱₀ (c : Thread nD τ) none Set.univ (m := m) (S := (m.slice r hr).view.set)
    (by rw [show (m.slice r hr).view.set = _ from View.set_slice _ _]; exact Finset.Subset.refl _)) $$ H
  iintro H
  have hv : m.view.readAt (Elt F) r.toLoadRect f = X := hf
  rw [hv]
  iapply Hk
  iexists f
  isplitr; · (ipureintro; exact hf)
  iexact H

/-- A store over an owned part. -/
theorem stPart (m : Memref sig .tc .vmem sh e) (r : Rect sh) (hr : ∀ a, r.stride a = 1) {X w : r.shape.Idx → Elt F e}
    {hx : (m.access r).Stores Finset.univ} {hm : (Finset.univ : Finset r.shape.Idx) = Finset.univ ∨ ∀ a, r.stride a = 1}
    {k : PUnit → P F} :
    (owns (c : Thread nD τ) (m.slice r hr) fullShare X : sProp 𝕄)
      ⊢ iprop((owns (c : Thread nD τ) (m.slice r hr) fullShare w -∗ wpc c (k ⟨⟩) Q)
        -∗ wpc c (.op (.store m r w Finset.univ hx hm) k) Q) := by
  unfold owns
  iintro ⟨%f, %hf, H⟩ Hk
  iapply (wp_store 𝒱₀ (c : Thread nD τ) none Set.univ (m := m) (r := r) (Mk := Finset.univ) (S := (m.slice r hr).view.set)
    (Finset.Subset.refl _)) $$ H
  iintro H
  iapply Hk
  iexists _
  isplitr
  swap; · iexact H
  ipureintro
  exact View.read_write_univ _ _

theorem unit_zero_emb {sh : Shape} {off : Fin sh.rank → Nat} (hz : off = fun _ => 0) (inb : ∀ a, off a + sh.size a ≤ sh.size a)
    (y : sh.Idx) : (Rect.unit (s := sh) off sh.size inb).emb y = y := by
  subst hz
  funext a
  apply Fin.ext
  show 0 + 1 * (y a).val = (y a).val
  omega

/-- A load of the whole of an owned buffer. -/
theorem ldAll (m : Memref sig .tc .vmem sh e) {off : Fin sh.rank → Nat} (hz : off = fun _ => 0)
    (inb : ∀ a, off a + sh.size a ≤ sh.size a) {hl : m.view.LoadsAt (Rect.unit (s := sh) off sh.size inb).toLoadRect}
    {X : sh.Idx → Elt F e} {k : (sh.Idx → Elt F e) → P F} :
    (owns (c : Thread nD τ) m q X : sProp 𝕄)
      ⊢ iprop((owns (c : Thread nD τ) m q X -∗ wpc c (k X) Q)
        -∗ wpc c (.op (.load m (Rect.unit (s := sh) off sh.size inb).toLoadRect hl) k) Q) := by
  have h := ld (F := F) c q (Q := Q) m (Rect.unit (s := sh) off sh.size inb) (hl := hl) (X := X) (k := k)
  have hx : (fun y => X ((Rect.unit (s := sh) off sh.size inb).emb y)) = X :=
    funext fun y => congrArg X (unit_zero_emb hz inb y)
  rw [hx] at h
  exact h

/-- A store over the whole of an owned buffer. -/
theorem stAll (m : Memref sig .tc .vmem sh e) {off : Fin sh.rank → Nat} (hz : off = fun _ => 0)
    (inb : ∀ a, off a + sh.size a ≤ sh.size a) {X w : sh.Idx → Elt F e}
    {hx : (m.access (Rect.unit (s := sh) off sh.size inb)).Stores Finset.univ}
    {hm : (Finset.univ : Finset (Rect.unit (s := sh) off sh.size inb).shape.Idx) = Finset.univ
      ∨ ∀ a, (Rect.unit (s := sh) off sh.size inb).stride a = 1}
    {k : PUnit → P F} :
    (owns (c : Thread nD τ) m fullShare X : sProp 𝕄)
      ⊢ iprop((owns (c : Thread nD τ) m fullShare w -∗ wpc c (k ⟨⟩) Q)
        -∗ wpc c (.op (.store m (Rect.unit (s := sh) off sh.size inb) w Finset.univ hx hm) k) Q) := by
  unfold owns
  iintro ⟨%f, %hf, H⟩ Hk
  iapply (wp_store 𝒱₀ (c : Thread nD τ) none Set.univ (m := m) (r := Rect.unit (s := sh) off sh.size inb) (Mk := Finset.univ)
    (S := m.view.set) (View.set_slice_subset _ _)) $$ H
  iintro H
  iapply Hk
  iexists _
  isplitr
  swap; · iexact H
  ipureintro
  have h := View.read_write_univ (v := m.access (Rect.unit (s := sh) off sh.size inb)) f w
  funext y
  have := congrFun h y
  rw [← this]
  exact (congrArg (m.view.read (Elt F) _) (unit_zero_emb hz inb y)).symm

end Owned

/-! ## Contents: blocks of rows, stacks of slots -/

/-- Block `s` of 8 rows. -/
def blk {α : Type} (X : S64x2048.Idx → α) (s : Fin 8) : S8x2048.Idx → α := fun y => X ((RR s).emb y)

/-- The buffer whose block `s` is `Y s`. -/
def gat {α : Type} (Y : Fin 8 → S8x2048.Idx → α) : S64x2048.Idx → α := fun i =>
  Y ⟨(i 0).val / 8, by have h : (i 0).val < 64 := (i 0).isLt; omega⟩
    (ix2 ⟨(i 0).val % 8, Nat.mod_lt _ (by decide)⟩ (i 1))

theorem blk_gat {α : Type} (Y : Fin 8 → S8x2048.Idx → α) (s : Fin 8) : blk (gat Y) s = Y s := by
  funext y
  have h0 : (y 0).val < 8 := (y 0).isLt
  have e0 : (((RR s).emb y) 0).val = 8 * s.val + 1 * (y 0).val := rfl
  have e1 : (((RR s).emb y) 1).val = 0 + 1 * (y 1).val := rfl
  unfold blk gat
  congr 1
  · exact Fin.ext (by show (((RR s).emb y) 0).val / 8 = s.val; omega)
  · rw [eq_ix2 (n0 := 8) (n1 := 2048) y]
    congr 1
    · exact Fin.ext (by show (((RR s).emb y) 0).val % 8 = (y 0).val; omega)
    · exact Fin.ext (by show (((RR s).emb y) 1).val = (y 1).val; omega)

theorem gat_blk {α : Type} (X : S64x2048.Idx → α) : gat (blk X) = X := by
  funext i
  unfold gat blk
  congr 1
  funext a
  fin_cases a
  · exact Fin.ext (by
      show 8 * ((i 0).val / 8) + 1 * ((i 0).val % 8) = (i 0).val
      omega)
  · exact Fin.ext (by
      show 0 + 1 * (i 1).val = (i 1).val
      omega)

/-- The buffer whose slot `s` is `Y s`. -/
def stack {α : Type} (Y : Fin 8 → S8x2048.Idx → α) : S8x8x2048.Idx → α := fun i => Y (i 0) (ix2 (i 1) (i 2))

/-- Slot `s` of it. -/
def slotOf {α : Type} (X : S8x8x2048.Idx → α) (s : Fin 8) : S8x2048.Idx → α :=
  fun y => X ((RS s).emb (Shape.reshapeEquiv squeezes_S1x8x2048_S8x2048.numel_eq y))

theorem RS_emb (s : Fin 8) (y : S8x2048.Idx) :
    (RS s).emb (Shape.reshapeEquiv squeezes_S1x8x2048_S8x2048.numel_eq y) = ix3 s (y 0) (y 1) := by
  have h : Shape.reshapeEquiv squeezes_S1x8x2048_S8x2048.numel_eq y = ix3 (⟨0, Nat.one_pos⟩ : Fin 1) (y 0) (y 1) :=
    (congrArg (Shape.reshapeEquiv squeezes_S1x8x2048_S8x2048.numel_eq) (eq_ix2 (n0 := 8) (n1 := 2048) y)).trans
      (reshapeEquiv_ix2_1ab _ _ _)
  rw [h]
  funext a
  fin_cases a
  · exact Fin.ext (by show s.val + 1 * 0 = s.val; omega)
  · exact Fin.ext (by show 0 + 1 * (y 0).val = (y 0).val; omega)
  · exact Fin.ext (by show 0 + 1 * (y 1).val = (y 1).val; omega)

theorem slotOf_stack {α : Type} (Y : Fin 8 → S8x2048.Idx → α) (s : Fin 8) : slotOf (stack Y) s = Y s := by
  funext y
  unfold slotOf
  rw [RS_emb]
  exact congrArg (Y s) (eq_ix2 (n0 := 8) (n1 := 2048) y).symm

section Split
variable (c : Dev nD) (q : PosShare TreeShare)

/-- A 64 by 2048 buffer is its eight row blocks. -/
theorem owns_rows {e : EltTy} (m : Memref sig .tc .vmem S64x2048 e) (X : S64x2048.Idx → Elt F e) :
    (owns (c : Thread nD τ) m q X : sProp 𝕄)
      ⊢ bigSep Finset.univ fun s => owns (c : Thread nD τ) (m.slice (RR s) (fun _ => rfl)) q (blk X s) :=
  owns_rects (c : Thread nD τ) m q RR (fun _ _ => rfl) rows_disjoint rows_cover X

theorem owns_of_rows [∀ e, Nonempty (Elt F e)] {e : EltTy} (m : Memref sig .tc .vmem S64x2048 e) (Y : Fin 8 → S8x2048.Idx → Elt F e) :
    (bigSep Finset.univ fun s => owns (c : Thread nD τ) (m.slice (RR s) (fun _ => rfl)) q (Y s))
      ⊢ (owns (c : Thread nD τ) m q (gat Y) : sProp 𝕄) := by
  refine (Entails.of_eq (bigSep_congr fun s _ => ?_)).trans
    (owns_of_rects (c : Thread nD τ) m q RR (fun _ _ => rfl) rows_disjoint rows_cover (gat Y))
  show owns _ _ q (Y s) = owns _ _ q (blk (gat Y) s)
  rw [blk_gat]

/-- The receive buffer is its eight slots. -/
theorem owns_slots (X : S8x8x2048.Idx → Elt F .bf16) :
    (owns (c : Thread nD τ) rsM q X : sProp 𝕄)
      ⊢ bigSep Finset.univ fun s => owns (c : Thread nD τ) (rsSlot s) q (slotOf X s) := by
  refine (owns_rects (c : Thread nD τ) rsM q RS (fun _ _ => rfl) rslots_disjoint rslots_cover X).trans
    (Entails.of_eq (bigSep_congr fun s _ => ?_))
  exact (owns_squeeze (F := F) c q (rsM.slice (RS s) (fun _ => rfl)) squeezes_S1x8x2048_S8x2048 (fun j => X ((RS s).emb j))).symm

theorem owns_of_slots [∀ e, Nonempty (Elt F e)] (Y : Fin 8 → S8x2048.Idx → Elt F .bf16) :
    (bigSep Finset.univ fun s => owns (c : Thread nD τ) (rsSlot s) q (Y s))
      ⊢ (owns (c : Thread nD τ) rsM q (stack Y) : sProp 𝕄) := by
  refine (Entails.of_eq (bigSep_congr fun s _ => ?_)).trans
    (owns_of_rects (c : Thread nD τ) rsM q RS (fun _ _ => rfl) rslots_disjoint rslots_cover (stack Y))
  rw [← owns_squeeze (F := F) c q (rsM.slice (RS s) (fun _ => rfl)) squeezes_S1x8x2048_S8x2048 (fun j => stack Y ((RS s).emb j))]
  show owns _ _ q (Y s) = owns _ _ q (slotOf (stack Y) s)
  rw [slotOf_stack]

end Split

end Cert.KernelIdeal.Own
-- ==== Proof.Vals.lean ====
/- What the buffers hold: each layer's activations, partial sums and reduced rows on every device, as functions of the
   memory the program is launched on. -/
module

public import proofs.«01_k».proof.Proof.Parts

@[expose] public section

noncomputable section

namespace Cert.KernelIdeal.Own

open Idealize.ShloMosaic Idealize.SL Idealize.SL.RA Idealize.SL.BI
open Idealize.ShloMosaic.TcCoe
open Idealize.ShloMosaic.ValueIdx
open Cert.KernelIdeal Cert.KernelIdeal.Gen

variable {F : FTy → Type} [FloatOps F]

/-! ## One tile's arithmetic -/

/-- The two products of one tile. -/
def tileMul (x : Vec F S64x2048 .bf16) (a : FVec F S2048x512 .f32) (b : FVec F S512x2048 .f32) : FVec F S64x2048 .f32 :=
  matmul dot_S64x512_S512x2048_S64x2048_1_0_0_1_n_n none
    (truncf .bf16 (maximumf (matmul dot_S64x2048_S2048x512_S64x512_1_0_0_1_n_n none x (truncf .bf16 a bitsLt_bf16_f32)
        (constant S64x512 .f32 0x00000000#32)) (broadcast S64x512 (Scalar.ofBits .f32 0x00000000#32))) bitsLt_bf16_f32)
    (truncf .bf16 b bitsLt_bf16_f32) (constant S64x2048 .f32 0x00000000#32)

/-- The first tile's, written; -/
def firstVal (x : Vec F S64x2048 .bf16) (a : FVec F S2048x512 .f32) (b : FVec F S512x2048 .f32) : FVec F S64x2048 .f32 :=
  shapeCast S64x2048 (tileMul x a b) shapeCasts_S64x2048_S64x2048
/-- a later tile's, added. -/
def nextVal (x : Vec F S64x2048 .bf16) (a : FVec F S2048x512 .f32) (b : FVec F S512x2048 .f32) (acc : FVec F S64x2048 .f32) :
    FVec F S64x2048 .f32 :=
  shapeCast S64x2048 (addf acc (tileMul x a b)) shapeCasts_S64x2048_S64x2048

theorem firstPay_eq (x : Vec F S64x2048 .bf16) (wa : Vec F S1x2048x512 .f32) (wb : Vec F S1x512x2048 .f32) :
    firstPay x wa wb = firstVal x (shapeCast S2048x512 wa shapeCasts_S1x2048x512_S2048x512)
      (shapeCast S512x2048 wb shapeCasts_S1x512x2048_S512x2048) := rfl
theorem nextPay_eq (x : Vec F S64x2048 .bf16) (wa : Vec F S1x2048x512 .f32) (wb : Vec F S1x512x2048 .f32) (acc : Vec F S64x2048 .f32) :
    nextPay x wa wb acc = nextVal x (shapeCast S2048x512 wa shapeCasts_S1x2048x512_S2048x512)
      (shapeCast S512x2048 wb shapeCasts_S1x512x2048_S512x2048) acc := rfl

/-- The accumulator after tile `n`. -/
def accUp (x : Vec F S64x2048 .bf16) (a : Fin 8 → FVec F S2048x512 .f32) (b : Fin 8 → FVec F S512x2048 .f32) : ℕ → FVec F S64x2048 .f32
  | 0 => firstVal x (a 0) (b 0)
  | n + 1 => nextVal x (a ⟨(n + 1) % 8, Nat.mod_lt _ (by decide)⟩) (b ⟨(n + 1) % 8, Nat.mod_lt _ (by decide)⟩) (accUp x a b n)

/-! ## The layers -/

variable (m : (ℓ : Loc nD τ sig) → Buf (Elt F) ℓ)

/-- The input block as staged. -/
def xV (c : Dev nD) : Vec F S64x2048 .f32 :=
  (win0_0.blk (0 : Fin 1)).view.read (Elt F) (m ((c : Thread nD τ).loc main_arg0))

/-- The weights. -/
def winV (c : Dev nD) (k : Fin 3) : Vec F S2048x4096 .f32 :=
  (winM k).view.read (Elt F) (m ((winM k).view.loc (c : Thread nD τ)))
def woutV (c : Dev nD) (k : Fin 3) : Vec F S4096x2048 .f32 :=
  (woutM k).view.read (Elt F) (m ((woutM k).view.loc (c : Thread nD τ)))

/-- Their tiles. -/
def tileA (c : Dev nD) (k : Fin 3) (j : Fin 8) : Vec F S2048x512 .f32 := fun i =>
  winV m c k ((Rect.unit (s := S2048x4096) ![0, 512 * j.val] S2048x512.size (inb_srcA j)).emb i)
def tileB (c : Dev nD) (k : Fin 3) (j : Fin 8) : Vec F S512x2048 .f32 := fun i =>
  woutV m c k ((Rect.unit (s := S4096x2048) ![512 * j.val, 0] S512x2048.size (inb_srcB j)).emb i)

/-- The layer a round belongs to. -/
abbrev lay (k : ℕ) : Fin 3 := ⟨k % 3, Nat.mod_lt _ (by decide)⟩

/-- A layer's partial sums from its activations. -/
def accOf (k : ℕ) (c : Dev nD) (X : Vec F S64x2048 .bf16) : FVec F S64x2048 .f32 :=
  accUp X (tileA m c (lay k)) (tileB m c (lay k)) 7

/-- The reduced rows of device `s`, from every device's partial sums. -/
def redOf (A : Dev nD → FVec F S64x2048 .f32) (s : Dev nD) : Vec F S8x2048 .bf16 :=
  k0_pay17 (k0_pay16 (myW s)) (stack fun t => blk (k0_pay15 (A t)) s) (blk (A s) s)

/-- The activations of layer `k`: the input rounded, then the reduced rows of all devices. -/
def Xs : ℕ → Dev nD → Vec F S64x2048 .bf16
  | 0 => fun c => k0_pay2 (xV m c)
  | k + 1 => fun _ => gat (redOf fun t => accOf m k t (Xs k t))

/-- Device `c`'s partial sums of layer `k`, -/
def As (k : ℕ) (c : Dev nD) : FVec F S64x2048 .f32 := accOf m k c (Xs m k c)
/-- rounded, as it sends them, -/
def Ps (k : ℕ) (c : Dev nD) : Vec F S64x2048 .bf16 := k0_pay15 (As m k c)
/-- and the reduced rows it sends on. -/
def Rs (k : ℕ) (c : Dev nD) : Vec F S8x2048 .bf16 := redOf (As m k) c

theorem Xs_succ (k : ℕ) (c : Dev nD) : Xs m (k + 1) c = gat (Rs m k) := rfl

/-- The result on device `c`. -/
def outV (c : Dev nD) : Vec F S8x2048 .f32 :=
  k0_pay1 (k0_pay16 (myW c)) (stack fun t => blk (Ps m 2 t) c) (blk (As m 2 c) c)

/-! ## The device's own slot is masked -/

theorem mask_apply (c s : Fin 8) :
    broadcastTo S8x8x2048 (shapeCast S8x1x1 (k0_pay16 (myW c)) shapeCasts_S8x1x1_S8x1x1) broadcasts_S8x1x1_S8x8x2048 (ix3 s 0 0)
      = if c.val = s.val then 1#1 else 0#1 := by
  revert c s; decide +kernel

theorem mask_any (c : Fin 8) (i : S8x8x2048.Idx) :
    broadcastTo S8x8x2048 (shapeCast S8x1x1 (k0_pay16 (myW c)) shapeCasts_S8x1x1_S8x1x1) broadcasts_S8x1x1_S8x8x2048 i
      = if c.val = (i 0).val then 1#1 else 0#1 :=
  (show _ = broadcastTo S8x8x2048 (shapeCast S8x1x1 (k0_pay16 (myW c)) shapeCasts_S8x1x1_S8x1x1) broadcasts_S8x1x1_S8x8x2048
      (ix3 (i 0) 0 0) from rfl).trans (mask_apply c (i 0))

theorem masked_eq {c : Fin 8} {Y Y' : Fin 8 → S8x2048.Idx → Elt F .bf16} (h : ∀ s, s ≠ c → Y s = Y' s) :
    (select (broadcastTo S8x8x2048 (shapeCast S8x1x1 (k0_pay16 (myW c)) shapeCasts_S8x1x1_S8x1x1) broadcasts_S8x1x1_S8x8x2048)
        (broadcast S8x8x2048 (Scalar.ofBits .f32 0x00000000#32)) (extf .f32 (stack Y) bitsLt_bf16_f32) : FVec F S8x8x2048 .f32)
      = select (broadcastTo S8x8x2048 (shapeCast S8x1x1 (k0_pay16 (myW c)) shapeCasts_S8x1x1_S8x1x1) broadcasts_S8x1x1_S8x8x2048)
        (broadcast S8x8x2048 (Scalar.ofBits .f32 0x00000000#32)) (extf .f32 (stack Y') bitsLt_bf16_f32) := by
  funext i
  rw [select_apply, select_apply, mask_any]
  by_cases hi : c.val = (i 0).val
  · rw [if_pos hi]; rfl
  · have e : stack Y i = stack Y' i := congrFun (h (i 0) fun e => hi (congrArg Fin.val e).symm) _
    rw [if_neg hi]
    refine congrArg (Scalar.select _ _) ?_
    show FloatOps.extf .f32 bitsLt_bf16_f32 (stack Y i) = FloatOps.extf .f32 bitsLt_bf16_f32 (stack Y' i)
    rw [e]

/-- What the reduction stores does not depend on the device's own slot, -/
theorem pay17_own {c : Fin 8} {Y Y' : Fin 8 → S8x2048.Idx → Elt F .bf16} (a : Vec F S8x2048 .f32) (h : ∀ s, s ≠ c → Y s = Y' s) :
    k0_pay17 (k0_pay16 (myW c)) (stack Y) a = k0_pay17 (k0_pay16 (myW c)) (stack Y') a := by
  unfold k0_pay17
  dsimp only
  rw [masked_eq h]
/-- nor what the last one does. -/
theorem pay1_own {c : Fin 8} {Y Y' : Fin 8 → S8x2048.Idx → Elt F .bf16} (a : Vec F S8x2048 .f32) (h : ∀ s, s ≠ c → Y s = Y' s) :
    k0_pay1 (k0_pay16 (myW c)) (stack Y) a = k0_pay1 (k0_pay16 (myW c)) (stack Y') a := by
  unfold k0_pay1
  dsimp only
  rw [masked_eq h]

end Cert.KernelIdeal.Own
-- ==== Proof.Sched.lean ====
/- The protocol: which semaphores the devices talk over, round by round, what each contribution hands over, what each
   device owes at launch, and the order in which waits come. -/
module

public import proofs.«01_k».proof.Proof.Vals

@[expose] public section

noncomputable section

namespace Cert.KernelIdeal.Own

open Idealize.ShloMosaic Idealize.SL Idealize.SL.RA Idealize.SL.BI
open scoped Idealize.SL.BI
open Idealize.SL.BI.BIBase Idealize.SL.BI.Laws Idealize.SL.ProofMode Idealize.SL.Sem
open Idealize.ShloMosaic.TcCoe
open Idealize.ShloMosaic.Rounds
open Idealize.ShloMosaic.ValueIdx
open Cert.KernelIdeal Cert.KernelIdeal.Gen

variable {F : FTy → Type} [FloatOps F]

local notation "𝕄" => MT nD τ sig ℕ (Elt F) ℕ UU ℕ

/-! ## The cells -/

/-- What a semaphore is for: the barrier, the rows of partial sums sent by device `s`, the reduced rows sent by it. -/
inductive CK
  | bar | rs (s : Fin 8) | ag (s : Fin 8) | other
deriving DecidableEq

def kindOf : SemLoc sig → CK
  | .reg s => if s = barS then .bar else .other
  | .dma q =>
    if h : 16 ≤ q.val ∧ q.val < 24 then .rs ⟨q.val - 16, by omega⟩
    else if h : 32 ≤ q.val ∧ q.val < 40 then .ag ⟨q.val - 32, by omega⟩
    else .other

abbrev rsSem (s : Fin 8) : DmaSem sig := semOf cc0_scratch9 s
abbrev agSem (s : Fin 8) : DmaSem sig := semOf cc0_scratch11 s

abbrev barCell (c : Dev nD) : GSem nD τ sig := ((c : Thread nD τ), .reg barS)
abbrev rsCell (c s : Dev nD) : GSem nD τ sig := ((c : Thread nD τ), .dma (rsSem s))
abbrev agCell (c s : Dev nD) : GSem nD τ sig := ((c : Thread nD τ), .dma (agSem s))

theorem kind_bar : kindOf (.reg barS) = .bar := by unfold kindOf; exact if_pos rfl
theorem kind_rs (s : Fin 8) : kindOf (.dma (rsSem s)) = .rs s := by rw [show rsSem s = _ from sem9_eq s]; revert s; decide +kernel
theorem kind_ag (s : Fin 8) : kindOf (.dma (agSem s)) = .ag s := by rw [show agSem s = _ from sem11_eq s]; revert s; decide +kernel

/-- The units a row block's transfer credits. -/
def NN : ℕ := (rsSlot 0).view.dmaCredit
theorem credit_eq (M : Memref sig .tc .vmem S8x2048 .bf16) : M.view.dmaCredit = NN := rfl
theorem NN_pos : 0 < NN := View.dmaCredit_pos _ (by decide)

/-! ## The schedule -/

variable (m : (ℓ : Loc nD τ sig) → Buf (Elt F) ℓ)

/-- With device `s`'s rows of partial sums of round `r`, device `c` gets: its own slot `s` holding them; and, until the last
    round, leave to write row `c` of `s`'s activations. -/
def rsMore (r : ℕ) (c s : Dev nD) : sProp 𝕄 :=
  if r < 2 then iprop(some1 s (xbRow c) ∗ reached ER (agCell s c) r) else iprop(emp)
def rsPay (r : ℕ) (c s : Dev nD) : sProp 𝕄 :=
  iprop(owns (c : Thread nD τ) (rsSlot s) fullShare (blk (Ps m r s) c) ∗ rsMore (F := F) r c s)
/-- With `s`'s reduced rows: its own activations' rows `s` holding them; and leave to write slot `c` of `s`'s receive
    buffer again. -/
def agMore (r : ℕ) (c s : Dev nD) : sProp 𝕄 := iprop(some1 s (rsSlot c) ∗ reached ER (rsCell s c) (r + 1))
def agPay (r : ℕ) (c s : Dev nD) : sProp 𝕄 :=
  iprop(owns (c : Thread nD τ) (xbRow s) fullShare (Rs m r s) ∗ agMore (F := F) r c s)

instance rsMore_storable (r : ℕ) (c s : Dev nD) : BI.Storable (upEmb : UEmb _ 𝕄) (rsMore (F := F) r c s) := by
  unfold rsMore; split <;> infer_instance
instance rsPay_storable (r : ℕ) (c s : Dev nD) : BI.Storable (upEmb : UEmb _ 𝕄) (rsPay m r c s) := by
  unfold rsPay; infer_instance
instance agMore_storable (r : ℕ) (c s : Dev nD) : BI.Storable (upEmb : UEmb _ 𝕄) (agMore (F := F) r c s) := by
  unfold agMore; infer_instance
instance agPay_storable (r : ℕ) (c s : Dev nD) : BI.Storable (upEmb : UEmb _ 𝕄) (agPay m r c s) := by
  unfold agPay; infer_instance

/-- A barrier takes one unit from each other device; a receive semaphore the rows' credit from the device it is named by, in
    each of three rounds, or two. -/
def Rd : Rounds.Schedule (GSem nD τ sig) (Dev nD) 𝕄 where
  duties g r := match kindOf g.2 with
    | .bar => if r = 0 then Finset.univ.erase g.1.1 else ∅
    | .rs s => if r < 3 ∧ s ≠ g.1.1 then {s} else ∅
    | .ag s => if r < 2 ∧ s ≠ g.1.1 then {s} else ∅
    | .other => ∅
  amount g _ _ := match kindOf g.2 with
    | .bar => 1
    | _ => NN
  payload g r d := match kindOf g.2 with
    | .bar => some1 d (rsSlot g.1.1)
    | .rs s => rsPay m r g.1.1 s
    | .ag s => agPay m r g.1.1 s
    | .other => iprop(emp)
  amount_pos g _ _ _ := by
    cases kindOf g.2 with
    | bar => exact Nat.one_pos
    | _ => exact NN_pos

instance Rd_payload_storable (g : GSem nD τ sig) (r : ℕ) (d : Dev nD) :
    BI.Storable (upEmb : UEmb _ 𝕄) ((Rd m).payload g r d) := by
  show BI.Storable upEmb (match kindOf g.2 with
    | .bar => some1 d (rsSlot g.1.1)
    | .rs s => rsPay m r g.1.1 s
    | .ag s => agPay m r g.1.1 s
    | .other => iprop(emp))
  cases kindOf g.2 <;> infer_instance

section Sched
variable (c s : Dev nD) (r : ℕ) (d : Dev nD)

theorem duties_bar : (Rd m).duties (barCell c) 0 = Finset.univ.erase c := by
  dsimp only [Rd]; rw [kind_bar]; exact if_pos rfl
theorem duties_bar_later : 1 ≤ r → (Rd m).duties (barCell c) r = ∅ := fun h => by
  dsimp only [Rd]; rw [kind_bar]; exact if_neg (by omega)
theorem duties_rs (hr : r < 3) (hs : s ≠ c) : (Rd m).duties (rsCell c s) r = {s} := by
  dsimp only [Rd]; rw [kind_rs]; exact if_pos ⟨hr, hs⟩
theorem duties_rs_later : 3 ≤ r → (Rd m).duties (rsCell c s) r = ∅ := fun h => by
  dsimp only [Rd]; rw [kind_rs]; exact if_neg (by omega)
theorem duties_rs_own : (Rd m).duties (rsCell c c) r = ∅ := by
  dsimp only [Rd]; rw [kind_rs]; exact if_neg (fun h => h.2 rfl)
theorem duties_ag (hr : r < 2) (hs : s ≠ c) : (Rd m).duties (agCell c s) r = {s} := by
  dsimp only [Rd]; rw [kind_ag]; exact if_pos ⟨hr, hs⟩
theorem duties_ag_later : 2 ≤ r → (Rd m).duties (agCell c s) r = ∅ := fun h => by
  dsimp only [Rd]; rw [kind_ag]; exact if_neg (by omega)
theorem duties_ag_own : (Rd m).duties (agCell c c) r = ∅ := by
  dsimp only [Rd]; rw [kind_ag]; exact if_neg (fun h => h.2 rfl)

theorem amount_bar : (Rd m).amount (barCell c) r d = 1 := by dsimp only [Rd]; rw [kind_bar]
theorem amount_rs : (Rd m).amount (rsCell c s) r d = NN := by dsimp only [Rd]; rw [kind_rs]
theorem amount_ag : (Rd m).amount (agCell c s) r d = NN := by dsimp only [Rd]; rw [kind_ag]

theorem payload_bar : (Rd m).payload (barCell c) r d = some1 d (rsSlot c) := by dsimp only [Rd]; rw [kind_bar]
theorem payload_rs : (Rd m).payload (rsCell c s) r d = rsPay m r c s := by dsimp only [Rd]; rw [kind_rs]
theorem payload_ag : (Rd m).payload (agCell c s) r d = agPay m r c s := by dsimp only [Rd]; rw [kind_ag]

theorem expect_bar : (Rd m).expect (barCell c) 0 = 7 := by
  unfold Schedule.expect Schedule.amountOf
  rw [duties_bar, Finset.sum_congr rfl fun d _ => amount_bar m c 0 d, Finset.sum_const, Finset.card_erase_of_mem (Finset.mem_univ _)]
  rfl
theorem expect_rs (hr : r < 3) (hs : s ≠ c) : (Rd m).expect (rsCell c s) r = NN := by
  unfold Schedule.expect Schedule.amountOf; rw [duties_rs m c s r hr hs, Finset.sum_singleton, amount_rs]
theorem expect_ag (hr : r < 2) (hs : s ≠ c) : (Rd m).expect (agCell c s) r = NN := by
  unfold Schedule.expect Schedule.amountOf; rw [duties_ag m c s r hr hs, Finset.sum_singleton, amount_ag]

theorem rest_rs (hr : r < 3) (hs : s ≠ c) :
    bigSep ((Rd m).duties (rsCell c s) r \ ∅) (fun d => (Rd m).payload (rsCell c s) r d) = rsPay m r c s := by
  rw [Finset.sdiff_empty, duties_rs m c s r hr hs, bigSep_singleton, payload_rs]
theorem rest_ag (hr : r < 2) (hs : s ≠ c) :
    bigSep ((Rd m).duties (agCell c s) r \ ∅) (fun d => (Rd m).payload (agCell c s) r d) = agPay m r c s := by
  rw [Finset.sdiff_empty, duties_ag m c s r hr hs, bigSep_singleton, payload_ag]

/-- The other devices, by distance. -/
theorem bigSep_peers (Φ : Dev nD → sProp 𝕄) :
    bigSep (Finset.univ.erase c) Φ = bigSep Finset.univ fun r : Fin 7 => Φ (peer c r) := by
  rw [← peers_eq, BI.bigSep_map]; rfl
theorem bigSep_devs (Φ : Dev nD → sProp 𝕄) :
    bigSep Finset.univ Φ = iprop(Φ c ∗ bigSep Finset.univ fun r : Fin 7 => Φ (peer c r)) := by
  rw [← bigSep_peers, BI.bigSep_univ_at _ c]

theorem rest_bar :
    bigSep ((Rd m).duties (barCell c) 0 \ ∅) (fun d => (Rd m).payload (barCell c) 0 d)
      = bigSep Finset.univ fun r : Fin 7 => some1 (peer c r) (rsSlot c) := by
  rw [Finset.sdiff_empty, duties_bar, bigSep_congr (fun d _ => payload_bar m c 0 d)]
  exact bigSep_peers c _

end Sched

/-! ## Owed at launch -/

/-- The sum over a list, the head added last. -/
def sumT {α : Type} (f : α → CellTallies nD τ sig ℕ) : List α → CellTallies nD τ sig ℕ
  | [] => 0
  | a :: l => sumT f l + f a

theorem sumT_eq (f : Fin 7 → CellTallies nD τ sig ℕ) : sumT f dists = ∑ r, f r := by
  simp only [sumT, Fin.sum_univ_seven, zero_add]
  ac_rfl

def tb (c : Dev nD) (r : Fin 7) : CellTallies nD τ sig ℕ := tallyAt (barCell (peer c r)) 0 1
def tr (k : ℕ) (c : Dev nD) (r : Fin 7) : CellTallies nD τ sig ℕ := tallyAt (rsCell (peer c r) c) k NN
def ta (k : ℕ) (c : Dev nD) (r : Fin 7) : CellTallies nD τ sig ℕ := tallyAt (agCell (peer c r) c) k NN

/-- What device `c` owes from the last exchange on, from the one before on, … -/
def D5 (c : Dev nD) : CellTallies nD τ sig ℕ := 0 + sumT (tr 2 c) dists
def D4 (c : Dev nD) : CellTallies nD τ sig ℕ := D5 c + sumT (ta 1 c) dists
def D3 (c : Dev nD) : CellTallies nD τ sig ℕ := D4 c + sumT (tr 1 c) dists
def D2 (c : Dev nD) : CellTallies nD τ sig ℕ := D3 c + sumT (ta 0 c) dists
def D1 (c : Dev nD) : CellTallies nD τ sig ℕ := D2 c + sumT (tr 0 c) dists
/-- at launch. -/
def D0 (c : Dev nD) : CellTallies nD τ sig ℕ := D1 c + sumT (tb c) dists

/-! ## Levels -/

/-- Three indices: the rounds. -/
def L (g : GSem nD τ sig) : Finset ℕ := if g.1.2 = .tc then Finset.range 3 else ∅
/-- The barrier first, then the exchanges in turn; every other semaphore below. -/
def lv (g : GSem nD τ sig) (ι : ℕ) : ℕ := match kindOf g.2 with
  | .bar => 1
  | .rs _ => 2 + 2 * ι
  | .ag _ => 3 + 2 * ι
  | .other => 0

theorem L_of_ne (g : GSem nD τ sig) (h : g.1.2 ≠ .tc) : L g = ∅ := if_neg h
theorem L_tc (c : Dev nD) (sm : SemLoc sig) : L ((c : Thread nD τ), sm) = Finset.range 3 := if_pos rfl

theorem lv_bar (c : Dev nD) (ι : ℕ) : lv (barCell c) ι = 1 := by dsimp only [lv]; rw [kind_bar]
theorem lv_rs (c s : Dev nD) (ι : ℕ) : lv (rsCell c s) ι = 2 + 2 * ι := by dsimp only [lv]; rw [kind_rs]
theorem lv_ag (c s : Dev nD) (ι : ℕ) : lv (agCell c s) ι = 3 + 2 * ι := by dsimp only [lv]; rw [kind_ag]

/-- Everything in `O` is owed above level `n`. -/
def Above (n : ℕ) (O : CellTallies nD τ sig ℕ) : Prop := ∀ g u, 0 < O g u → u ∈ L g ∧ n < lv g u

theorem above_zero (n : ℕ) : Above n 0 := fun g u h => absurd h (Nat.lt_irrefl 0)
theorem above_add {n : ℕ} {O O' : CellTallies nD τ sig ℕ} (h : Above n O) (h' : Above n O') : Above n (O + O') := fun g u hp => by
  rw [Pi.add_apply, Finsupp.add_apply] at hp
  rcases Nat.eq_zero_or_pos (O g u) with h0 | h0
  · exact h' g u (by omega)
  · exact h g u h0
theorem above_tally {n : ℕ} (c : Dev nD) (sm : SemLoc sig) (ι k : ℕ) (hι : ι < 3) (hl : n < lv ((c : Thread nD τ), sm) ι) :
    Above n (tallyAt ((c : Thread nD τ), sm) ι k) := fun g u hp => by
  rw [tallyAt_apply] at hp
  by_cases h : g = ((c : Thread nD τ), sm) ∧ u = ι
  · rw [h.1, h.2, L_tc]; exact ⟨Finset.mem_range.mpr hι, hl⟩
  · rw [if_neg h] at hp; exact absurd hp (Nat.lt_irrefl 0)
theorem above_sum {n : ℕ} {α : Type} (f : α → CellTallies nD τ sig ℕ) (h : ∀ a, Above n (f a)) : ∀ l, Above n (sumT f l)
  | [] => above_zero n
  | a :: l => above_add (above_sum f h l) (h a)

theorem above_tb (c : Dev nD) (l) {n : ℕ} (h : n < 1) : Above n (sumT (tb c) l) :=
  above_sum _ (fun r => above_tally _ _ _ _ (by decide) (by rw [lv_bar]; exact h)) l
theorem above_tr (c : Dev nD) (l) {n k : ℕ} (hk : k < 3) (h : n < 2 + 2 * k) : Above n (sumT (tr k c) l) :=
  above_sum _ (fun r => above_tally _ _ _ _ hk (by rw [lv_rs]; exact h)) l
theorem above_ta (c : Dev nD) (l) {n k : ℕ} (hk : k < 2) (h : n < 3 + 2 * k) : Above n (sumT (ta k c) l) :=
  above_sum _ (fun r => above_tally _ _ _ _ (by omega) (by rw [lv_ag]; exact h)) l

theorem above_D5 (c : Dev nD) {n : ℕ} (h : n < 6) : Above n (D5 c) := above_add (above_zero n) (above_tr c _ (by decide) h)
theorem above_D4 (c : Dev nD) {n : ℕ} (h : n < 5) : Above n (D4 c) := above_add (above_D5 c (by omega)) (above_ta c _ (by decide) h)
theorem above_D3 (c : Dev nD) {n : ℕ} (h : n < 4) : Above n (D3 c) := above_add (above_D4 c (by omega)) (above_tr c _ (by decide) h)
theorem above_D2 (c : Dev nD) {n : ℕ} (h : n < 3) : Above n (D2 c) := above_add (above_D3 c (by omega)) (above_ta c _ (by decide) h)
theorem above_D1 (c : Dev nD) {n : ℕ} (h : n < 2) : Above n (D1 c) := above_add (above_D2 c (by omega)) (above_tr c _ (by decide) h)
theorem above_D0 (c : Dev nD) {n : ℕ} (h : n < 1) : Above n (D0 c) := above_add (above_D1 c (by omega)) (above_tb c _ h)

/-- A device may wait at a level below all it owes. -/
theorem mayWait (c : Dev nD) (sm : SemLoc sig) {ι : ℕ} (hι : ι < 3) {O : CellTallies nD τ sig ℕ}
    (h : Above (lv ((c : Thread nD τ), sm) ι) O) :
    (levAts L lv : sProp 𝕄) ⊢ MayWait (c : Thread nD τ) sm ι O :=
  MayOwe.of_cut (L := L) (lev := lv) (lv ((c : Thread nD τ), sm) ι)
    (fun p hp => by rw [Finset.mem_singleton.mp hp, L_tc]; exact Finset.mem_range.mpr hι)
    (fun g u hg => (h g u hg).1)
    (fun p hp => by rw [Finset.mem_singleton.mp hp])
    (fun g u hg => (h g u hg).2)

end Cert.KernelIdeal.Own
-- ==== Proof.Tools.lean ====
/- The rules of the body's transfers and waits, over owned parts, and of its loops. -/
module

public import proofs.«01_k».proof.Proof.Sched

@[expose] public section

noncomputable section

namespace Cert.KernelIdeal.Own

open Idealize.ShloMosaic Idealize.SL Idealize.SL.RA Idealize.SL.BI
open scoped Idealize.SL.BI
open Idealize.SL.BI.BIBase Idealize.SL.BI.Laws Idealize.SL.ProofMode Idealize.SL.Sem
open Idealize.ShloMosaic.TcCoe
open Idealize.ShloMosaic.Rounds Idealize.ShloMosaic.Transfers
open Idealize.ShloMosaic.ValueIdx
open Cert.KernelIdeal Cert.KernelIdeal.Gen

variable {F : FTy → Type} [FloatOps F]

local notation "𝕄" => MT nD τ sig ℕ (Elt F) ℕ UU ℕ

/-- What the device owes, whatever waits it has recorded. -/
def ow (c : Dev nD) (O : CellTallies nD τ sig ℕ) : sProp 𝕄 := iprop(∃ W, owes (c : Thread nD τ) O W)

/-! ## Loops -/

/-- One resource per element of a list. -/
def sepL {α : Type} (Φ : α → sProp 𝕄) : List α → sProp 𝕄
  | [] => iprop(emp)
  | a :: l => iprop(Φ a ∗ sepL Φ l)

theorem sepL_dists (Φ : Fin 7 → sProp 𝕄) : sepL Φ dists = bigSep Finset.univ Φ := by
  rw [bigSep_univ_eq_bigSepL dists (by decide) (by decide)]
  simp only [bigSepL_cons_cons, bigSepL_singleton, sepL]
  have h : (iprop(Φ 6 ∗ emp) : sProp 𝕄) = Φ 6 := BI.equiv_iff.mp sep_emp
  rw [h]
  rfl

/-- A piece, then the rest. -/
theorem pthen (c : Dev nD) {A B : sProp 𝕄} {p q : P F} {Q : PUnit.{1} → sProp (MT nD τ sig ℕ (Elt F) ℕ UU ℕ)}
    (h : A ⊢ wpc c p (fun _ => B)) :
    A ⊢ iprop((B -∗ wpc c q Q) -∗ wpc c (p >>= fun _ => q) Q) := by
  unfold wpc
  rw [wp_bind]
  iintro HA Hk
  iapply (wp_wand (Fr := frame) (wpE := wpE (defs₀ (F := F)) 𝒱₀ (c : Thread nD τ) none) (Q := fun _ => B)) $$ [HA]
  · iapply h; iexact HA
  iintro %x HB
  iapply Hk; iexact HB

/-- Nothing left. -/
theorem pdone (c : Dev nD) {Q : PUnit.{1} → sProp (MT nD τ sig ℕ (Elt F) ℕ UU ℕ)} :
    Q ⟨⟩ ⊢ wpc (F := F) c (pure ⟨⟩) Q := by
  unfold wpc
  rw [Prog.pure_eq_ret, wp_ret]
  exact fupd_intro

/-- A single effect as a piece. -/
theorem pone (c : Dev nD) {A B : sProp 𝕄} {e : TpuEff nD τ sig (Elt F) Λ₀ .tc PUnit}
    (h : ∀ {k : PUnit → P F} {Q : PUnit.{1} → sProp (MT nD τ sig ℕ (Elt F) ℕ UU ℕ)}, A ⊢ iprop((B -∗ wpc c (k ⟨⟩) Q) -∗ wpc c (.op e k) Q)) :
    A ⊢ wpc c (Prog.lift e) (fun _ => B) := by
  iintro HA
  unfold Prog.lift
  iapply h $$ HA
  iintro HB
  iapply (pdone c (Q := fun _ => B))
  iexact HB

/-- A loop whose iterations each turn their own resource `Pre a` into `Post a` and a state indexed by what is left into the
    next. -/
theorem loop {α : Type} (c : Dev nD) (f : α → P F) (Pre Post : α → sProp 𝕄) (S : List α → sProp 𝕄)
    (C : sProp 𝕄) [BI.Persistent C]
    (h : ∀ a l, iprop(C ∗ Pre a ∗ S (a :: l)) ⊢ wpc c (f a) (fun _ => iprop(Post a ∗ S l))) :
    ∀ l, iprop(C ∗ sepL Pre l ∗ S l) ⊢ wpc c (seqP f l) (fun _ => iprop(sepL Post l ∗ S []))
  | [] => by
    unfold seqP sepL
    iintro ⟨-, He, HS⟩
    iapply (pdone c (Q := fun _ => iprop(emp ∗ S [])))
    isplitl [He] <;> iassumption
  | a :: l => by
    have ih := loop c f Pre Post S C h l
    show _ ⊢ wpc c (f a >>= fun _ => seqP f l) _
    iintro ⟨#HC, HP, HS⟩
    ihave HP := (Entails.of_eq (show sepL Pre (a :: l) = iprop(Pre a ∗ sepL Pre l) from rfl)) $$ HP
    icases HP with ⟨Ha, Hl⟩
    iapply (pthen c (h a l)) $$ [Ha HS]
    · isplitr; · iexact HC
      isplitl [Ha] <;> iassumption
    iintro ⟨Hpa, HS⟩
    iapply (wp_wand (Fr := frame) (wpE := wpE (defs₀ (F := F)) 𝒱₀ (c : Thread nD τ) none)) $$ [Hl HS]
    · iapply ih
      isplitr; · iexact HC
      isplitl [Hl] <;> iassumption
    iintro %y ⟨Hpl, HS⟩
    isplitl [Hpa Hpl]
    · iapply (Entails.of_eq (show iprop(Post a ∗ sepL Post l) = sepL Post (a :: l) from rfl))
      isplitl [Hpa] <;> iassumption
    iexact HS

/-! ## Transfers -/

section Xfer
variable (m : (ℓ : Loc nD τ sig) → Buf (Elt F) ℓ)
variable (c : Dev nD) {Q : PUnit.{1} → sProp (MT nD τ sig ℕ (Elt F) ℕ UU ℕ)}

theorem some1_intro {sp : Space} {sh : Shape} {e : EltTy} (M : Memref sig .tc sp sh e) (X : sh.Idx → Elt F e) :
    (owns (c : Thread nD τ) M fullShare X : sProp 𝕄) ⊢ some1 c M := by
  unfold some1; iintro H; iexists X; iexact H

/-- A local copy, from its issue to its completion. -/
theorem copyIn {sp : Space} {sh : Shape} {e : EltTy} {src : Memref sig .tc sp sh e} {dst : Memref sig .tc .vmem sh e} {sm : DmaSem sig}
    {hsrc : src.view.WordExact} {hdst : dst.view.WordExact} {hsem : DmaTarget.Typed (nD := nD) (τ := τ) (p := Proc.tc) sp (.dma sm) (.here dst)}
    {k : PUnit → P F} {q : PosShare TreeShare} {X : sh.Idx → Elt F e} (N : ℕ) (hN : dst.view.dmaCredit = N) (hN0 : 0 < N) :
    iprop(owns (c : Thread nD τ) src q X ∗ some1 c dst ∗ semVal ((c : Thread nD τ), .dma sm) 0)
      ⊢ iprop((Flight EC (c : Thread nD τ) (.dma sm) 0 N (owns (c : Thread nD τ) dst fullShare X) -∗ wpc c (k ⟨⟩) Q)
        -∗ wpc c (.op (.enqueueDma src (.here dst) (.dma sm) hsrc hdst hsem) k) Q) := by
  unfold some1 owns
  iintro ⟨⟨%fs, %hfs, Hs⟩, ⟨%X', %fd, %hfd, Hd⟩, Hv⟩ Hk
  iapply (wp_dmaLocal EC 𝒱₀ (c : Thread nD τ) none (src := src) (dst := dst) (sm := .dma sm) 0 N (show dst.view.amount (.dma sm) = N from hN) hN0 (Finset.Subset.refl _)) $$ [Hs Hd Hv]
  · isplitl [Hs]; · iexact Hs
    isplitl [Hd]; · iexact Hd
    iexact Hv
  iintro Hf
  iapply Hk
  iapply (Flight_mono EC (c : Thread nD τ) (D := _) (D' := _) ?h) $$ Hf
  iintro ⟨Hd, -⟩
  iexists _
  isplitr
  swap; · iexact Hd
  ipureintro
  rw [View.read_write_univ]
  exact hfs

/-- The wait for it. -/
theorem copyWait {sp sp' : Space} {sh sh' : Shape} {e e' : EltTy} {sm : DmaSem sig} {srcw : Memref sig .tc sp sh e} {dstw : Memref sig .tc sp' sh' e'}
    {hsrc : srcw.view.WordExact} {hdst : dstw.view.WordExact} {k : PUnit → P F} {N : ℕ} (hN : dstw.view.dmaCredit = N)
    (D : sProp 𝕄) {O : CellTallies nD τ sig ℕ} (hk : lv ((c : Thread nD τ), .dma sm) 0 = 0) (hO : Above 0 O) :
    iprop(levAts L lv ∗ Flight EC (c : Thread nD τ) (.dma sm) 0 N D ∗ ow c O)
      ⊢ iprop((iprop(D ∗ semVal ((c : Thread nD τ), .dma sm) 0 ∗ ow c O) -∗ wpc c (k ⟨⟩) Q)
        -∗ wpc c (.op (.waitDma2 sm srcw dstw hsrc hdst) k) Q) := by
  unfold ow
  iintro ⟨#Hlev, Hf, ⟨%W, HO⟩⟩ Hk
  iapply (wp_waitLocalO EC 𝒱₀ (c : Thread nD τ) none 0 hN) $$ [Hf HO]
  · isplitl [Hf]; · iexact Hf
    isplitl [HO]; · iexact HO
    iapply (mayWait c (.dma sm) (ι := 0) (by decide) (by rw [hk]; exact hO))
    iexact Hlev
  iintro ⟨HD, Hv, HO⟩
  iapply Hk
  isplitl [HD]; · iexact HD
  isplitl [Hv]; · iexact Hv
  iexists _; iexact HO

/-- A copy to a peer, its arrival paying a round of the peer's semaphore, its departure awaited on one of the device's own. -/
theorem copyOut (p : Dev nD) {src dst : Memref sig .tc .vmem S8x2048 .bf16} {sS sR : DmaSem sig}
    {hsc : (dst : Memref sig (Dev.tc p : Thread nD τ).2.kind .vmem S8x2048 .bf16).view.ref.isScScratch = false}
    {hsrc : src.view.WordExact} {hdst : dst.view.WordExact}
    {hsem : DmaTarget.Typed .vmem (.dma sR) (.remote (Dev.tc p : Thread nD τ) dst (.dma sS) hsc)}
    {k : PUnit → P F} {q : PosShare TreeShare} {X : S8x2048.Idx → Elt F .bf16} {κ r : ℕ} {d : Dev nD} (T : sProp 𝕄)
    (hd : d ∈ (Rd m).duties ((p : Thread nD τ), .dma sR) r) (ha : (Rd m).amount ((p : Thread nD τ), .dma sR) r d = NN)
    (hN : dst.view.dmaCredit = NN)
    (hpay : iprop(owns (p : Thread nD τ) dst fullShare X ∗ T) ⊢ (Rd m).payload ((p : Thread nD τ), .dma sR) r d)
    (O : CellTallies nD τ sig ℕ) :
    iprop(cellInv ER (Rd m) κ ((p : Thread nD τ), .dma sR) ∗ reached ER ((p : Thread nD τ), .dma sR) r
        ∗ dutyTok ER ((p : Thread nD τ), .dma sR) r d ∗ owns (c : Thread nD τ) src q X ∗ some1 p dst ∗ T
        ∗ semVal ((c : Thread nD τ), .dma sS) 0 ∗ ow c (O + tallyAt ((p : Thread nD τ), .dma sR) r NN))
      ⊢ iprop((iprop(Flight EC (c : Thread nD τ) (.dma sS) 0 NN (owns (c : Thread nD τ) src q X) ∗ ow c O) -∗ wpc c (k ⟨⟩) Q)
        -∗ wpc c (.op (.enqueueDma src (.remote (Dev.tc p : Thread nD τ) dst (.dma sS) hsc) (.dma sR) hsrc hdst hsem) k) Q) := by
  unfold some1 ow
  iintro ⟨#Hinv, #Hr, Ht, Hs, ⟨%X', Hd⟩, HT, Hv, ⟨%W, HO⟩⟩ Hk
  unfold owns
  icases Hs with ⟨%fs, %hfs, Hs⟩
  icases Hd with ⟨%fd, %hfd, Hd⟩
  imod (flight_alloc EC NN_pos (src.view.loc (c : Thread nD τ) ↦[src.view.set]{q} fs : sProp 𝕄) (g := ((c : Thread nD τ), .dma sS))) $$ Hv
    with ⟨%γ, %δ, %κ', #Hinv', Hγ, Hδ⟩
  iapply (wp_enqueueDma_remote 𝒱₀ (c : Thread nD τ) none Set.univ (c' := (p : Thread nD τ)) (src := src) (dst := dst) (sem := .dma sR) (sS := .dma sS) false r 0 (R := iprop((dst.view.loc (p : Thread nD τ) ↦[dst.view.set]{fullShare} (dst.view.write (Elt F) fd (src.view.read (Elt F) fs) Finset.univ)) ∗ T)) O NN (show dst.view.amount (.dma sR) = NN from hN) rfl) $$ [Hs Hd HT HO] [Hγ] [Ht]
  · isplitl [Hs]; · iexact Hs
    isplitl [Hd HT]
    · iapply (writeUpdate_frame (p : Thread nD τ))
      isplitl [Hd]
      · iapply (pointsTo_writeUpdate (p : Thread nD τ) (v := dst.view) (Finset.Subset.refl _)) $$ Hd
      iexact HT
    iexact HO
  · iapply (flight_creditUpdate EC (δ := δ))
    isplitr; · iexact Hinv'
    iexact Hγ
  · have hX : iprop((dst.view.loc (p : Thread nD τ) ↦[dst.view.set]{fullShare} (dst.view.write (Elt F) fd (src.view.read (Elt F) fs) Finset.univ)) ∗ T)
        ⊢ (Rd m).payload ((p : Thread nD τ), .dma sR) r d := by
      iintro ⟨Hd, HT⟩
      iapply hpay
      isplitl [Hd]
      · unfold owns
        iexists _
        isplitr
        swap; · iexact Hd
        ipureintro
        rw [View.read_write_univ]
        exact hfs
      iexact HT
    have hl := Rounds.land_credit (κ := κ) ER (Rd m) hd hX
    rw [ha] at hl
    iapply hl
    isplitr; · iexact Hinv
    isplitl [Ht]; · iexact Ht
    iexact Hr
  iintro ⟨Hc, HO⟩
  iapply Hk
  isplitl [Hδ Hc]
  · iapply (Flight_mono EC (c : Thread nD τ) (D := (src.view.loc (c : Thread nD τ) ↦[src.view.set]{q} fs : sProp 𝕄)) ?h)
    · iintro H; iexists fs; isplitr; · (ipureintro; exact hfs)
      iexact H
    iapply (flight_intro EC (c : Thread nD τ) (κ := κ'))
    isplitr; · iexact Hinv'
    isplitl [Hδ] <;> iassumption
  iexists W; iexact HO

/-- The wait for a peer's copy: the round's payload. -/
theorem arrive {sm : DmaSem sig} {srcw dstw : Memref sig .tc .vmem S8x2048 .bf16}
    {hsrc : srcw.view.WordExact} {hdst : dstw.view.WordExact} {k : PUnit → P F} {κ r : ℕ} (hr : r < 3)
    (hN : dstw.view.dmaCredit = NN) (hx : (Rd m).expect ((c : Thread nD τ), .dma sm) r = NN)
    {O : CellTallies nD τ sig ℕ} (hO : Above (lv ((c : Thread nD τ), .dma sm) r) O) (R : sProp 𝕄)
    (hR : bigSep ((Rd m).duties ((c : Thread nD τ), .dma sm) r \ ∅) (fun d => (Rd m).payload ((c : Thread nD τ), .dma sm) r d) = R) :
    iprop(levAts L lv ∗ cellInv ER (Rd m) κ ((c : Thread nD τ), .dma sm) ∗ cred (tallyAt ((c : Thread nD τ), .dma sm) r NN)
        ∗ atPos ER ((c : Thread nD τ), .dma sm) r ∅ 0 ∗ ow c O)
      ⊢ iprop((iprop(atPos ER ((c : Thread nD τ), .dma sm) (r + 1) ∅ 0 ∗ reached ER ((c : Thread nD τ), .dma sm) (r + 1) ∗ R ∗ ow c O)
          -∗ wpc c (k ⟨⟩) Q)
        -∗ wpc c (.op (.waitDma2 sm srcw dstw hsrc hdst) k) Q) := by
  subst hR
  unfold ow
  iintro ⟨#Hlev, #Hinv, Hc, Hat, ⟨%W, HO⟩⟩ Hk
  iapply (Rounds.wp_wait_rest_token 𝒱₀ ER (Rd m) (c : Thread nD τ) none (κ := κ)
      (wpE_waitDma2_eq 𝒱₀ (c : Thread nD τ) none Set.univ) (Set.mem_univ _) r (O := O) (W := W) (R := r) (m := 0) (T := ∅)
      (by rw [Nat.zero_add, hx]; exact hN)) $$ [Hc HO Hat]
  · isplitr; · iexact Hinv
    isplitl [Hc]; · rw [show dstw.view.dmaCredit = NN from hN]; iexact Hc
    isplitl [HO]; · iexact HO
    isplitr
    · iapply (mayWait c (.dma sm) hr hO); iexact Hlev
    iexact Hat
  iintro ⟨HO, Hat, Hre, Hp⟩
  iapply Hk
  isplitl [Hat]; · iexact Hat
  isplitl [Hre]; · iexact Hre
  isplitl [Hp]; · iexact Hp
  iexists _; iexact HO

end Xfer

/-! ## Shares of one row block for the seven copies that read it -/

/-- Owned at what a buffer reads is the points-to at that buffer. -/
theorem owns_at (c : Dev nD) {sp : Space} {sh : Shape} {e : EltTy} (M : Memref sig .tc sp sh e) (q : PosShare TreeShare)
    {X : sh.Idx → Elt F e} (f : Buf (Elt F) (M.view.loc (c : Thread nD τ))) (hf : M.view.read (Elt F) f = X) :
    (owns (c : Thread nD τ) M q X : sProp 𝕄) = M.view.loc (c : Thread nD τ) ↦[M.view.set]{q} f := by
  subst hf
  have h₁ : (owns (c : Thread nD τ) M q (M.view.read (Elt F) f) : sProp 𝕄) ⊢ M.view.loc (c : Thread nD τ) ↦[M.view.set]{q} f := by
    unfold owns
    iintro ⟨%g, %hg, H⟩
    have e : (M.view.loc (c : Thread nD τ) ↦[M.view.set]{q} g : sProp 𝕄) = M.view.loc (c : Thread nD τ) ↦[M.view.set]{q} f :=
      pointsTo_congr fun i hi => by
        obtain ⟨x, -, rfl⟩ := Finset.mem_map.mp hi
        have := congrFun hg x
        simp only [View.read] at this
        exact (cast_inj _).mp this
    rw [← e]
    iexact H
  have h₂ : (M.view.loc (c : Thread nD τ) ↦[M.view.set]{q} f : sProp 𝕄) ⊢ owns (c : Thread nD τ) M q (M.view.read (Elt F) f) := by
    unfold owns; iintro H; iexists f; isplitr; · (ipureintro; rfl)
    iexact H
  exact BI.equiv_iff.mp ⟨h₁, h₂⟩

/-- A part in eight shares, -/
theorem owns_toks (c : Dev nD) {sp : Space} {sh : Shape} {e : EltTy} (M : Memref sig .tc sp sh e) (X : sh.Idx → Elt F e) :
    (owns (c : Thread nD τ) M fullShare X : sProp 𝕄)
      ⊢ iprop(owns (c : Thread nD τ) M (shareDrop fullShare 7) X ∗ bigSep Finset.univ fun r : Fin 7 => owns (c : Thread nD τ) M (shareTok fullShare 7 r) X) := by
  iintro H
  ihave H := (show (owns (c : Thread nD τ) M fullShare X : sProp 𝕄) ⊢ iprop(∃ f, ⌜M.view.read (Elt F) f = X⌝ ∗ (M.view.loc (c : Thread nD τ) ↦[M.view.set]{fullShare} f)) from .rfl) $$ H
  icases H with ⟨%f, %hf, H⟩
  rw [owns_at c M _ f hf, bigSep_congr (fun r _ => owns_at (F := F) c M (shareTok fullShare 7 r) f hf)]
  iapply (pointsTo_toks_split fullShare 7) $$ H

/-- and back. -/
theorem owns_toks_join (c : Dev nD) {sp : Space} {sh : Shape} {e : EltTy} (M : Memref sig .tc sp sh e) (X : sh.Idx → Elt F e) :
    iprop(owns (c : Thread nD τ) M (shareDrop fullShare 7) X ∗ bigSep Finset.univ fun r : Fin 7 => owns (c : Thread nD τ) M (shareTok fullShare 7 r) X)
      ⊢ (owns (c : Thread nD τ) M fullShare X : sProp 𝕄) := by
  iintro ⟨H, Ht⟩
  ihave H := (show (owns (c : Thread nD τ) M (shareDrop fullShare 7) X : sProp 𝕄) ⊢ iprop(∃ f, ⌜M.view.read (Elt F) f = X⌝ ∗ (M.view.loc (c : Thread nD τ) ↦[M.view.set]{shareDrop fullShare 7} f)) from .rfl) $$ H
  icases H with ⟨%f, %hf, H⟩
  ihave Ht := (Entails.of_eq (bigSep_congr (fun r _ => owns_at (F := F) c M (shareTok fullShare 7 r) f hf))) $$ Ht
  iapply (Entails.of_eq (owns_at (F := F) c M fullShare f hf).symm)
  iapply (pointsTo_toks_join fullShare 7)
  isplitl [H] <;> iassumption

end Cert.KernelIdeal.Own
-- ==== Proof.Comm.lean ====
/- The exchanges: the barrier, the partial sums, the reduced rows. -/
module

public import proofs.«01_k».proof.Proof.Tools

@[expose] public section

noncomputable section

namespace Cert.KernelIdeal.Own

open Idealize.ShloMosaic Idealize.SL Idealize.SL.RA Idealize.SL.BI
open scoped Idealize.SL.BI
open Idealize.SL.BI.BIBase Idealize.SL.BI.Laws Idealize.SL.ProofMode Idealize.SL.Sem
open Idealize.ShloMosaic.TcCoe
open Idealize.ShloMosaic.Rounds Idealize.ShloMosaic.Transfers
open Idealize.ShloMosaic.ValueIdx
open Cert.KernelIdeal Cert.KernelIdeal.Gen

variable {F : FTy → Type} [FloatOps F]

local notation "𝕄" => MT nD τ sig ℕ (Elt F) ℕ UU ℕ

/-- A device's protocol semaphores: the barrier, then per sender the partial sums' and the reduced rows'. -/
abbrev CI : Type := Option (Bool × Fin 8)
def csem : CI → SemLoc sig
  | none => .reg barS
  | some (false, s) => .dma (rsSem s)
  | some (true, s) => .dma (agSem s)
abbrev kcell (ck : Dev nD × CI) : GSem nD τ sig := ((ck.1 : Thread nD τ), csem ck.2)

variable (m : (ℓ : Loc nD τ sig) → Buf (Elt F) ℓ) (K : Dev nD × CI → ℕ)

/-- The facts that hold throughout: the levels, every cell's invariant, that round 0 of every cell is reached. -/
def ctx : sProp 𝕄 :=
  iprop(levAts L lv ∗ (bigSep Finset.univ fun ck => cellInv ER (Rd m) (K ck) (kcell ck)) ∗ (bigSep Finset.univ fun ck => reached ER (kcell ck) 0))

instance ctx_persistent : BI.Persistent (ctx m K) := by unfold ctx; infer_instance

theorem ctx_lev : ctx m K ⊢ (levAts L lv : sProp 𝕄) := by unfold ctx; iintro ⟨H, -⟩; iexact H
theorem ctx_inv (ck : Dev nD × CI) : ctx m K ⊢ cellInv ER (Rd m) (K ck) (kcell ck) := by
  unfold ctx; iintro ⟨-, H, -⟩; iapply (show (bigSep Finset.univ fun ck => cellInv ER (Rd m) (K ck) (kcell ck)) ⊢ cellInv ER (Rd m) (K ck) (kcell ck) from BI.bigSep_elim (Finset.mem_univ ck)) $$ H
theorem ctx_reached (ck : Dev nD × CI) : ctx m K ⊢ (reached ER (kcell ck) 0 : sProp 𝕄) := by
  unfold ctx; iintro ⟨-, -, H⟩; iapply (show (bigSep Finset.univ fun ck : Dev nD × CI => (reached ER (kcell ck) 0 : sProp 𝕄)) ⊢ reached ER (kcell ck) 0 from BI.bigSep_elim (Finset.mem_univ ck)) $$ H

section Zip
variable {I : Type} (s : Finset I) (A B : I → sProp (MT nD τ sig ℕ (Elt F) ℕ UU ℕ))
theorem zip2 : iprop(bigSep s A ∗ bigSep s B) ⊢ bigSep s (fun r => iprop(A r ∗ B r)) := Entails.of_eq (BI.bigSep_sep' s A B).symm
theorem unzip2 : bigSep s (fun r => iprop(A r ∗ B r)) ⊢ iprop(bigSep s A ∗ bigSep s B) := Entails.of_eq (BI.bigSep_sep' s A B)
end Zip

variable (c : Dev nD)

/-- A loop over the seven distances. -/
theorem loop7 (f : Fin 7 → P F) (Pre Post : Fin 7 → sProp 𝕄) (S : List (Fin 7) → sProp 𝕄) (C : sProp 𝕄) [BI.Persistent C]
    (h : ∀ a l, iprop(C ∗ Pre a ∗ S (a :: l)) ⊢ wpc c (f a) (fun _ => iprop(Post a ∗ S l))) :
    iprop(C ∗ bigSep Finset.univ Pre ∗ S dists) ⊢ wpc c (seqP f dists) (fun _ => iprop(bigSep Finset.univ Post ∗ S [])) := by
  rw [← sepL_dists, ← sepL_dists]
  exact loop c f Pre Post S C h dists

theorem ow_cons {α : Type} (D : CellTallies nD τ sig ℕ) (f : α → CellTallies nD τ sig ℕ) (a : α) (l : List α) :
    (ow c (D + sumT f (a :: l)) : sProp 𝕄) = ow c ((D + sumT f l) + f a) := by
  rw [show sumT f (a :: l) = sumT f l + f a from rfl, add_assoc]
theorem ow_nil {α : Type} (D : CellTallies nD τ sig ℕ) (f : α → CellTallies nD τ sig ℕ) :
    (ow c (D + sumT f []) : sProp 𝕄) = ow c D := by
  rw [show sumT f [] = 0 from rfl, add_zero]

/-! ## The barrier -/

theorem barSend (r : Fin 7) (l : List (Fin 7)) :
    iprop(ctx m K ∗ iprop(dutyTok ER (barCell (peer c r)) 0 c ∗ some1 c (rsSlot (peer c r))) ∗ ow c (D1 c + sumT (tb c) (r :: l)))
      ⊢ wpc c (barSendP c r) (fun _ => iprop(emp ∗ ow c (D1 c + sumT (tb c) l))) := by
  rw [ow_cons]
  unfold barSendP
  rw [devBar_eq, show (semSignalWord (peer c r) barS 1#32 : P F) = Prog.lift (.semSignal (peer c r : Thread nD τ) barS ((1 : ℕ) : ℤ)) from rfl]
  refine pone c fun {k Q} => ?_
  unfold ow
  iintro ⟨#HC, ⟨Ht, Hs⟩, ⟨%W, HO⟩⟩ Hk
  iapply (Rounds.wp_signal 𝒱₀ ER (Rd m) (c : Thread nD τ) none (dst := (peer c r : Thread nD τ)) (sem := barS) (κ := K (peer c r, none)) (r := 0) (d := c)
      (by rw [duties_bar]; exact Finset.mem_erase.mpr ⟨(peer_ne c r).symm, Finset.mem_univ _⟩) (amount_bar m (peer c r) 0 c) 0 (D1 c + sumT (tb c) l) rfl (W := W))
    $$ [HO Ht Hs]
  · isplitr; · iapply (ctx_inv m K (peer c r, none)); iexact HC
    isplitl [HO]; · iexact HO
    isplitl [Ht]; · iexact Ht
    isplitl [Hs]; · rw [payload_bar]; iexact Hs
    iapply (ctx_reached m K (peer c r, none)); iexact HC
  iintro HO
  iapply Hk
  isplitr; · iempintro
  iexists W; iexact HO

theorem barrier_all :
    iprop(ctx m K ∗ (bigSep Finset.univ fun r : Fin 7 => dutyTok ER (barCell (peer c r)) 0 c) ∗ (bigSep Finset.univ fun r : Fin 7 => some1 c (rsSlot (peer c r)))
        ∗ cred (tallyAt (barCell c) 0 7) ∗ atPos ER (barCell c) 0 ∅ 0 ∗ ow c (D0 c))
      ⊢ wpc c (barrierP c) (fun _ => iprop(atPos ER (barCell c) 1 ∅ 0 ∗ (bigSep Finset.univ fun r : Fin 7 => some1 (peer c r) (rsSlot c)) ∗ ow c (D1 c))) := by
  unfold barrierP D0
  iintro ⟨#HC, Ht, Hs, Hc, Hat, HO⟩
  iapply (pthen c (loop7 c (barSendP c) _ _ (fun l => ow c (D1 c + sumT (tb c) l)) (ctx m K) (barSend m K c))) $$ [Ht Hs HO]
  · isplitr; · iexact HC
    isplitl [Ht Hs]
    · iapply (zip2 Finset.univ); isplitl [Ht] <;> iassumption
    iexact HO
  iintro ⟨-, HO⟩
  ihave HO := (Entails.of_eq (ow_nil c (D1 c) (tb c))) $$ HO
  ihave HO := (show ow (F := F) c (D1 c) ⊢ iprop(∃ W, owes (c : Thread nD τ) (D1 c) W) from .rfl) $$ HO
  icases HO with ⟨%W, HO⟩
  rw [show (semWaitWord barS 7#32 : P F) = Prog.op (.semWait barS ((7 : ℕ) : ℤ)) Prog.ret from rfl]
  iapply (Rounds.wp_wait_rest_token 𝒱₀ ER (Rd m) (c : Thread nD τ) none (κ := K (c, none))
      (wpE_semWait_eq 𝒱₀ (c : Thread nD τ) none Set.univ) (Set.mem_univ _) 0 (O := D1 c) (W := W) (R := 0) (m := 0) (T := ∅)
      (by rw [expect_bar])) $$ [Hc HO Hat]
  · isplitr; · iapply (ctx_inv m K (c, none)); iexact HC
    isplitl [Hc]; · iexact Hc
    isplitl [HO]; · iexact HO
    isplitr
    · iapply (mayWait c (.reg barS) (ι := 0) (by decide) (by rw [lv_bar]; exact above_D1 c (by decide)))
      iapply (ctx_lev m K); iexact HC
    iexact Hat
  iintro ⟨HO, Hat, -, Hp⟩
  ihave Hp := (Entails.of_eq (rest_bar m c)) $$ Hp
  iapply (pdone c (Q := fun _ => _))
  isplitl [Hat]; · iexact Hat
  isplitl [Hp]; · iexact Hp
  unfold ow; iexists _; iexact HO

/-! ## The exchange of the partial sums -/

/-- The semaphores of a device's own sends. -/
abbrev sendRS (s : Dev nD) : GSem nD τ sig := ((c : Thread nD τ), .dma (semOf cc0_scratch8 s))
abbrev sendAG (s : Dev nD) : GSem nD τ sig := ((c : Thread nD τ), .dma (semOf cc0_scratch10 s))

theorem lv_sendRS (s : Dev nD) : lv (sendRS c s) 0 = 0 := by
  dsimp only [lv, sendRS]; rw [sem8_eq]; revert s; decide +kernel
theorem lv_sendAG (s : Dev nD) : lv (sendAG c s) 0 = 0 := by
  dsimp only [lv, sendAG]; rw [sem10_eq]; revert s; decide +kernel

/-- Leave to send row block `p` of round `k` to `p`. -/
def rsGo (k : ℕ) (p : Dev nD) : sProp 𝕄 :=
  iprop(some1 p (rsSlot c) ∗ reached ER (rsCell p c) k)
/-- A block on its way. -/
def rsFly (k : ℕ) (p : Dev nD) : sProp 𝕄 :=
  Flight EC (c : Thread nD τ) (.dma (semOf cc0_scratch8 p)) 0 NN (owns (c : Thread nD τ) (sbRow p) fullShare (blk (Ps m k c) p))

theorem rsSend (k : Fin 3) (D : CellTallies nD τ sig ℕ) (r : Fin 7) (l : List (Fin 7)) :
    iprop(ctx m K ∗ iprop(dutyTok ER (rsCell (peer c r) c) k.val c ∗ owns (c : Thread nD τ) (sbRow (peer c r)) fullShare (blk (Ps m k.val c) (peer c r))
          ∗ rsGo c k.val (peer c r) ∗ rsMore k.val (peer c r) c ∗ semVal (sendRS c (peer c r)) 0) ∗ ow c (D + sumT (tr k.val c) (r :: l)))
      ⊢ wpc c (rsSendP c k r) (fun _ => iprop(rsFly m c k.val (peer c r) ∗ ow c (D + sumT (tr k.val c) l))) := by
  rw [ow_cons]
  unfold rsSendP rsFly rsGo
  refine pone c fun {k' Q} => ?_
  iintro ⟨#HC, ⟨Ht, Hs, ⟨Hd, #Hr⟩, HT, Hv⟩, HO⟩ Hk
  iapply (copyOut m c (devRS c k r) (src := sbAt c r) (dst := rsMy c) (sS := semAt cc0_scratch8 c r) (sR := semMy cc0_scratch9 c)
      (X := blk (Ps m k.val c) (peer c r)) (κ := K (peer c r, some (false, c))) (r := k.val) (d := c) (q := fullShare) (rsMore k.val (peer c r) c)
      (by rw [devRS_eq, semMy_eq]; rw [duties_rs m (peer c r) c k.val k.isLt (peer_ne c r).symm]; exact Finset.mem_singleton_self c)
      (by rw [devRS_eq, semMy_eq]; exact amount_rs m (peer c r) c k.val c) (credit_eq _)
      (by rw [devRS_eq, semMy_eq, rsMy_eq, payload_rs]; unfold rsPay; exact .rfl) (D + sumT (tr k.val c) l))
    $$ [Ht Hs Hd HT Hv HO]
  · rw [devRS_eq, semMy_eq, rsMy_eq, semAt_eq, sbAt_eq]
    isplitr; · iapply (ctx_inv m K (peer c r, some (false, c))); iexact HC
    isplitr; · iexact Hr
    isplitl [Ht]; · iexact Ht
    isplitl [Hs]; · iexact Hs
    isplitl [Hd]; · iexact Hd
    isplitl [HT]; · iexact HT
    isplitl [Hv]; · iexact Hv
    iexact HO
  rw [semAt_eq, sbAt_eq]
  iexact Hk

theorem rsRecv (k : Fin 3) (D : CellTallies nD τ sig ℕ) (hD : Above (2 + 2 * k.val) D) (r : Fin 7) (l : List (Fin 7)) :
    iprop(ctx m K ∗ iprop(cred (tallyAt (rsCell c (peer c r)) k.val NN) ∗ atPos ER (rsCell c (peer c r)) k.val ∅ 0) ∗ ow c D)
      ⊢ wpc c (rsRecvP c r) (fun _ => iprop(iprop(atPos ER (rsCell c (peer c r)) (k.val + 1) ∅ 0 ∗ reached ER (rsCell c (peer c r)) (k.val + 1)
          ∗ rsPay m k.val c (peer c r)) ∗ ow c D)) := by
  unfold rsRecvP
  refine pone c fun {k' Q} => ?_
  iintro ⟨#HC, ⟨Hc, Hat⟩, HO⟩ Hk
  iapply (arrive m c (sm := semAt cc0_scratch9 c r) (κ := K (c, some (false, peer c r))) (r := k.val) k.isLt (credit_eq _)
      (by rw [semAt_eq]; exact expect_rs m c (peer c r) k.val k.isLt (peer_ne c r))
      (by rw [semAt_eq, show (lv ((c : Thread nD τ), .dma (semOf cc0_scratch9 (peer c r))) k.val) = 2 + 2 * k.val from lv_rs c (peer c r) k.val]; exact hD) (rsPay m k.val c (peer c r))
      (by rw [semAt_eq]; exact rest_rs m c (peer c r) k.val k.isLt (peer_ne c r))) $$ [Hc Hat HO]
  · rw [semAt_eq]
    isplitr; · iapply (ctx_lev m K); iexact HC
    isplitr; · iapply (ctx_inv m K (c, some (false, peer c r))); iexact HC
    isplitl [Hc]; · iexact Hc
    isplitl [Hat]; · iexact Hat
    iexact HO
  rw [semAt_eq]
  iintro ⟨Hat, Hr, Hp, HO⟩
  iapply Hk
  isplitr [HO]
  · isplitl [Hat]; · iexact Hat
    isplitl [Hr] <;> iassumption
  iexact HO

theorem rsDone (k : ℕ) (D : CellTallies nD τ sig ℕ) (hD : Above 0 D) (r : Fin 7) (l : List (Fin 7)) :
    iprop(ctx m K ∗ rsFly m c k (peer c r) ∗ ow c D)
      ⊢ wpc c (rsDoneP c r) (fun _ => iprop(iprop(semVal (sendRS c (peer c r)) 0 ∗ owns (c : Thread nD τ) (sbRow (peer c r)) fullShare (blk (Ps m k c) (peer c r))) ∗ ow c D)) := by
  unfold rsDoneP
  refine pone c fun {k' Q} => ?_
  iintro ⟨#HC, Hf, HO⟩ Hk
  iapply (copyWait c (sm := semAt cc0_scratch8 c r) (N := NN) (credit_eq _) (owns (c : Thread nD τ) (sbRow (peer c r)) fullShare (blk (Ps m k c) (peer c r)))
      (by rw [semAt_eq]; exact lv_sendRS c (peer c r)) hD) $$ [Hf HO]
  · rw [semAt_eq]
    isplitr; · iapply (ctx_lev m K); iexact HC
    isplitl [Hf]; · unfold rsFly; iexact Hf
    iexact HO
  rw [semAt_eq]
  iintro ⟨Hs, Hv, HO⟩
  iapply Hk
  isplitr [HO]
  · isplitl [Hv] <;> iassumption
  iexact HO

end Cert.KernelIdeal.Own
-- ==== Proof.Rs.lean ====
/- The exchange of partial sums and the reduction. -/
module

public import proofs.«01_k».proof.Proof.Comm

@[expose] public section

noncomputable section

namespace Cert.KernelIdeal.Own

open Idealize.ShloMosaic Idealize.SL Idealize.SL.RA Idealize.SL.BI
open scoped Idealize.SL.BI
open Idealize.SL.BI.BIBase Idealize.SL.BI.Laws Idealize.SL.ProofMode Idealize.SL.Sem
open Idealize.ShloMosaic.TcCoe
open Idealize.ShloMosaic.Rounds Idealize.ShloMosaic.Transfers
open Idealize.ShloMosaic.ValueIdx
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (K : Dev nD × CI → ℕ) (c : Dev nD)

/-! ## What is held per peer -/

def rsToks (k : ℕ) : sProp 𝕄 := bigSep Finset.univ fun r : Fin 7 => dutyTok ER (rsCell (peer c r) c) k c
def agToks (k : ℕ) : sProp 𝕄 := bigSep Finset.univ fun r : Fin 7 => dutyTok ER (agCell (peer c r) c) k c
def rsCrs (k : ℕ) : sProp 𝕄 := bigSep Finset.univ fun r : Fin 7 => cred (tallyAt (rsCell c (peer c r)) k NN)
def agCrs (k : ℕ) : sProp 𝕄 := bigSep Finset.univ fun r : Fin 7 => cred (tallyAt (agCell c (peer c r)) k NN)
def rsPoss (k : ℕ) : sProp 𝕄 := bigSep Finset.univ fun r : Fin 7 => atPos ER (rsCell c (peer c r)) k ∅ 0
def agPoss (k : ℕ) : sProp 𝕄 := bigSep Finset.univ fun r : Fin 7 => atPos ER (agCell c (peer c r)) k ∅ 0
def rsReas (k : ℕ) : sProp 𝕄 := bigSep Finset.univ fun r : Fin 7 => reached ER (rsCell c (peer c r)) k
def agReas (k : ℕ) : sProp 𝕄 := bigSep Finset.univ fun r : Fin 7 => reached ER (agCell c (peer c r)) k
def rsSems : sProp 𝕄 := bigSep Finset.univ fun r : Fin 7 => semVal (sendRS c (peer c r)) 0
def agSems : sProp 𝕄 := bigSep Finset.univ fun r : Fin 7 => semVal (sendAG c (peer c r)) 0
def rsGos (k : ℕ) : sProp 𝕄 := bigSep Finset.univ fun r : Fin 7 => rsGo c k (peer c r)
/-- The device's own activations' rows of its peers, at any contents; its slots of its peers. -/
def xbPeers : sProp 𝕄 := bigSep Finset.univ fun r : Fin 7 => some1 c (xbRow (peer c r))
def slPeers : sProp 𝕄 := bigSep Finset.univ fun r : Fin 7 => some1 c (rsSlot (peer c r))

instance rsReas_pers (k : ℕ) : BI.Persistent (rsReas (F := F) c k) := by unfold rsReas; infer_instance
instance agReas_pers (k : ℕ) : BI.Persistent (agReas (F := F) c k) := by unfold agReas; infer_instance

theorem packed (k : ℕ) :
    iprop(owns (c : Thread nD τ) accM fullShare (As m k c) ∗ some1 c sbM)
      ⊢ wpc c packP (fun _ => iprop(owns (c : Thread nD τ) accM fullShare (As m k c) ∗ owns (c : Thread nD τ) sbM fullShare (Ps m k c))) := by
  unfold packP
  simp only [Prog.bind_lift]
  have hz : (![0, 0] : Fin 2 → ℕ) = fun _ => 0 := by decide
  unfold some1
  iintro ⟨Ha, ⟨%X, Hs⟩⟩
  iapply (ldAll c fullShare accM (off := ![0, 0]) hz inb_S64x2048_S64x2048_0_0) $$ Ha
  iintro Ha
  iapply (ldAll c fullShare sbM (off := ![0, 0]) hz inb_S64x2048_S64x2048_0_0) $$ Hs
  iintro Hs
  unfold Prog.lift
  iapply (stAll c sbM (off := ![0, 0]) hz inb_S64x2048_S64x2048_0_0) $$ Hs
  iintro Hs
  iapply (pdone c (Q := fun _ => _))
  isplitl [Ha]; · iexact Ha
  iexact Hs

/-- The exchange. -/
theorem rs_all (k : Fin 3) (D : CellTallies nD τ sig ℕ) (hD : Above (2 + 2 * k.val) D) :
    iprop(ctx m K ∗ owns (c : Thread nD τ) accM fullShare (As m k.val c) ∗ some1 c sbM ∗ rsGos c k.val ∗ rsToks c k.val ∗ rsCrs c k.val
        ∗ rsPoss c k.val ∗ rsSems c ∗ (bigSep Finset.univ fun r : Fin 7 => rsMore k.val (peer c r) c) ∗ ow c (D + sumT (tr k.val c) dists))
      ⊢ wpc c (rsP c k) (fun _ => iprop(owns (c : Thread nD τ) accM fullShare (As m k.val c) ∗ some1 c sbM ∗ rsPoss c (k.val + 1) ∗ rsReas c (k.val + 1)
        ∗ rsSems c ∗ (bigSep Finset.univ fun r : Fin 7 => rsPay m k.val c (peer c r)) ∗ ow c D)) := by
  unfold rsP
  iintro ⟨#HC, Ha, Hs, Hg, Ht, Hc, Hp, Hv, Hm, HO⟩
  iapply (pthen c (packed m c k.val)) $$ [Ha Hs]
  · isplitl [Ha] <;> iassumption
  iintro ⟨Ha, Hs⟩
  ihave Hs := (owns_rows (F := F) c fullShare sbM (Ps m k.val c)) $$ Hs
  ihave Hs := (Entails.of_eq (bigSep_devs (F := F) c fun s => owns (c : Thread nD τ) (sbRow s) fullShare (blk (Ps m k.val c) s))) $$ Hs
  icases Hs with ⟨Hso, Hs⟩
  iapply (pthen c (loop7 c (rsSendP c k) _ _ (fun l => ow c (D + sumT (tr k.val c) l)) (ctx m K) (rsSend m K c k D))) $$ [Ht Hs Hg Hm Hv HO]
  · isplitr; · iexact HC
    isplitr [HO]
    swap; · iexact HO
    unfold rsToks rsGos rsSems
    iapply (zip2 Finset.univ); isplitl [Ht]; · iexact Ht
    iapply (zip2 Finset.univ); isplitl [Hs]; · iexact Hs
    iapply (zip2 Finset.univ); isplitl [Hg]; · iexact Hg
    iapply (zip2 Finset.univ); isplitl [Hm]; · iexact Hm
    iexact Hv
  iintro ⟨Hf, HO⟩
  ihave HO := (Entails.of_eq (ow_nil c D (tr k.val c))) $$ HO
  iapply (pthen c (loop7 c (rsRecvP c) _ _ (fun _ => ow c D) (ctx m K) (rsRecv m K c k D hD))) $$ [Hc Hp HO]
  · isplitr; · iexact HC
    isplitr [HO]
    swap; · iexact HO
    unfold rsCrs rsPoss
    iapply (zip2 Finset.univ); isplitl [Hc]; · iexact Hc
    iexact Hp
  iintro ⟨Hr, HO⟩
  have h0 : Above 0 D := fun g u h => ⟨(hD g u h).1, by have := (hD g u h).2; omega⟩
  iapply (wp_wand (Fr := frame) (wpE := wpE (defs₀ (F := F)) 𝒱₀ (c : Thread nD τ) none)) $$ [Hf HO]
  · iapply (loop7 c (rsDoneP c) _ _ (fun _ => ow c D) (ctx m K) (rsDone m K c k.val D h0))
    isplitr; · iexact HC
    isplitl [Hf] <;> iassumption
  iintro %y ⟨Hd, HO⟩
  ihave Hd := (unzip2 Finset.univ _ _) $$ Hd
  icases Hd with ⟨Hv, Hs⟩
  ihave Hr := (unzip2 Finset.univ _ _) $$ Hr
  icases Hr with ⟨Hat, Hr⟩
  ihave Hr := (unzip2 Finset.univ _ _) $$ Hr
  icases Hr with ⟨Hre, Hpay⟩
  isplitl [Ha]; · iexact Ha
  isplitl [Hso Hs]
  · iapply (some1_intro c sbM (gat (blk (Ps m k.val c))))
    iapply (owns_of_rows (F := F) c fullShare sbM (blk (Ps m k.val c)))
    iapply (Entails.of_eq (bigSep_devs (F := F) c fun s => owns (c : Thread nD τ) (sbRow s) fullShare (blk (Ps m k.val c) s)).symm)
    isplitl [Hso] <;> iassumption
  unfold rsPoss rsReas rsSems
  isplitl [Hat]; · iexact Hat
  isplitl [Hre]; · iexact Hre
  isplitl [Hv]; · iexact Hv
  isplitl [Hpay]; · iexact Hpay
  iexact HO

/-! ## The reduction -/

theorem xbR6_eq : (xbM.slice (R6 c) (fun _ => rfl) : Memref sig .tc .vmem S8x2048 .bf16) = xbRow c := by
  have h := off6_eq c
  show xbM.slice (Rect.unit (s := S64x2048) (k0_off6 c) S8x2048.size (k0_off6_inb c)) _ = _
  generalize k0_off6_inb c = i
  revert i; rw [h]; intro i; rfl
theorem acc_R6 (X : S64x2048.Idx → Elt F .f32) : (fun y => X ((R6 c).emb y)) = blk X c := by
  unfold blk
  have h := off6_eq c
  show (fun y => X ((Rect.unit (s := S64x2048) (k0_off6 c) S8x2048.size (k0_off6_inb c)).emb y)) = _
  generalize k0_off6_inb c = i
  revert i; rw [h]; intro i; rfl

/-- The received slots, the device's own at any contents. -/
def rsGot (k : ℕ) : sProp 𝕄 :=
  iprop(some1 c (rsSlot c) ∗ bigSep Finset.univ fun r : Fin 7 => owns (c : Thread nD τ) (rsSlot (peer c r)) fullShare (blk (Ps m k (peer c r)) c))

/-- The slots' contents, the device's own `X`. -/
def got (k : ℕ) (X : S8x2048.Idx → Elt F .bf16) (s : Fin 8) : S8x2048.Idx → Elt F .bf16 := if s = c then X else blk (Ps m k s) c

theorem got_join (k : ℕ) : rsGot m c k ⊢ (iprop(∃ X, owns (c : Thread nD τ) rsM fullShare (stack (got m c k X))) : sProp 𝕄) := by
  unfold rsGot some1
  iintro ⟨⟨%X, Ho⟩, Hs⟩
  iexists X
  iapply (owns_of_slots (F := F) c fullShare (got m c k X))
  iapply (Entails.of_eq (bigSep_devs (F := F) c fun s => owns (c : Thread nD τ) (rsSlot s) fullShare (got m c k X s)).symm)
  isplitl [Ho]
  · rw [show got m c k X c = X from if_pos rfl]; iexact Ho
  iapply (Entails.of_eq (bigSep_congr fun r _ => by rw [show got m c k X (peer c r) = blk (Ps m k (peer c r)) c from if_neg (peer_ne c r)])) $$ Hs

theorem got_split (k : ℕ) (X : S8x8x2048.Idx → Elt F .bf16) :
    (owns (c : Thread nD τ) rsM fullShare X : sProp 𝕄) ⊢ iprop(some1 c (rsSlot c) ∗ slPeers c) := by
  unfold slPeers
  rw [← bigSep_devs (F := F) c fun s => some1 c (rsSlot s)]
  exact (owns_slots (F := F) c fullShare X).trans (BI.bigSep_mono fun s _ => some1_intro c (rsSlot s) _)

theorem reduced (k : ℕ) :
    iprop(owns (c : Thread nD τ) accM fullShare (As m k c) ∗ rsGot m c k ∗ some1 c (xbRow c))
      ⊢ wpc c (reduceP c) (fun _ => iprop(owns (c : Thread nD τ) accM fullShare (As m k c) ∗ some1 c (rsSlot c) ∗ slPeers c
          ∗ owns (c : Thread nD τ) (xbRow c) fullShare (Rs m k c))) := by
  unfold reduceP
  simp only [Prog.bind_lift]
  have hz : (![0, 0, 0] : Fin 3 → ℕ) = fun _ => 0 := by decide
  rw [← xbR6_eq]
  iintro ⟨Ha, Hs, Hx⟩
  ihave Hs := (got_join m c k) $$ Hs
  icases Hs with ⟨%X, Hs⟩
  iapply (ldAll c fullShare rsM (off := ![0, 0, 0]) hz inb_S8x8x2048_S8x8x2048_0_0_0) $$ Hs
  iintro Hs
  iapply (ld c fullShare accM (R6 c)) $$ Ha
  iintro Ha
  ihave Hx := (show some1 (F := F) c (xbM.slice (R6 c) (fun _ => rfl)) ⊢ iprop(∃ X, owns (c : Thread nD τ) (xbM.slice (R6 c) (fun _ => rfl)) fullShare X) from .rfl) $$ Hx
  icases Hx with ⟨%Y, Hx⟩
  iapply (ldPart c fullShare xbM (R6 c) (fun _ => rfl)) $$ Hx
  iintro Hx
  unfold Prog.lift
  iapply (stPart c xbM (R6 c) (fun _ => rfl)) $$ Hx
  iintro Hx
  iapply (pdone c (Q := fun _ => _))
  isplitl [Ha]; · iexact Ha
  ihave Hs := (got_split c k _) $$ Hs
  icases Hs with ⟨Ho, Hs⟩
  isplitl [Ho]; · iexact Ho
  isplitl [Hs]; · iexact Hs
  have e : k0_pay17 (k0_pay16 (myW c)) (stack (got m c k X)) (fun y => As m k c ((R6 c).emb y)) = Rs m k c :=
    (congrArg (k0_pay17 (k0_pay16 (myW c)) (stack (got m c k X))) (acc_R6 c (As m k c))).trans (pay17_own _ fun s hs => if_neg hs)
  rw [← e]
  iexact Hx

theorem finished :
    iprop(owns (c : Thread nD τ) accM fullShare (As m 2 c) ∗ rsGot m c 2 ∗ some1 c outM)
      ⊢ wpc c (finishP c) (fun _ => iprop(owns (c : Thread nD τ) accM fullShare (As m 2 c) ∗ some1 c (rsSlot c) ∗ slPeers c
          ∗ owns (c : Thread nD τ) outM fullShare (outV m c))) := by
  unfold finishP
  simp only [Prog.bind_lift]
  have hz : (![0, 0, 0] : Fin 3 → ℕ) = fun _ => 0 := by decide
  have hz' : (![0, 0] : Fin 2 → ℕ) = fun _ => 0 := by decide
  iintro ⟨Ha, Hs, Hx⟩
  ihave Hs := (got_join m c 2) $$ Hs
  icases Hs with ⟨%X, Hs⟩
  iapply (ldAll c fullShare rsM (off := ![0, 0, 0]) hz inb_S8x8x2048_S8x8x2048_0_0_0) $$ Hs
  iintro Hs
  iapply (ld c fullShare accM (R6 c)) $$ Ha
  iintro Ha
  ihave Hx := (show some1 (F := F) c outM ⊢ iprop(∃ X, owns (c : Thread nD τ) outM fullShare X) from .rfl) $$ Hx
  icases Hx with ⟨%Y, Hx⟩
  iapply (ldAll c fullShare outM (off := ![0, 0]) hz' inb_S8x2048_S8x2048_0_0) $$ Hx
  iintro Hx
  unfold Prog.lift
  iapply (stAll c outM (off := ![0, 0]) hz' inb_S8x2048_S8x2048_0_0) $$ Hx
  iintro Hx
  iapply (pdone c (Q := fun _ => _))
  isplitl [Ha]; · iexact Ha
  ihave Hs := (got_split c 2 _) $$ Hs
  icases Hs with ⟨Ho, Hs⟩
  isplitl [Ho]; · iexact Ho
  isplitl [Hs]; · iexact Hs
  have e : k0_pay1 (k0_pay16 (myW c)) (stack (got m c 2 X)) (fun y => As m 2 c ((R6 c).emb y)) = outV m c :=
    (congrArg (k0_pay1 (k0_pay16 (myW c)) (stack (got m c 2 X))) (acc_R6 c (As m 2 c))).trans (pay1_own _ fun s hs => if_neg hs)
  rw [← e]
  iexact Hx

end Cert.KernelIdeal.Own
-- ==== Proof.Ag.lean ====
/- The exchange of the reduced rows. -/
module

public import proofs.«01_k».proof.Proof.Rs

@[expose] public section

noncomputable section

namespace Cert.KernelIdeal.Own

open Idealize.ShloMosaic Idealize.SL Idealize.SL.RA Idealize.SL.BI
open scoped Idealize.SL.BI
open Idealize.SL.BI.BIBase Idealize.SL.BI.Laws Idealize.SL.ProofMode Idealize.SL.Sem
open Idealize.ShloMosaic.TcCoe
open Idealize.ShloMosaic.Rounds Idealize.ShloMosaic.Transfers
open Idealize.ShloMosaic.ValueIdx
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (K : Dev nD × CI → ℕ) (c : Dev nD)

/-- The device's rows, one share of eight, on their way to `p`. -/
def agFly (k : ℕ) (r : Fin 7) : sProp 𝕄 :=
  Flight EC (c : Thread nD τ) (.dma (semOf cc0_scratch10 (peer c r))) 0 NN (owns (c : Thread nD τ) (xbRow c) (shareTok fullShare 7 r) (Rs m k c))

theorem agSend (k : Fin 2) (D : CellTallies nD τ sig ℕ) (r : Fin 7) (l : List (Fin 7)) :
    iprop(ctx m K ∗ iprop(dutyTok ER (agCell (peer c r) c) k.val c ∗ owns (c : Thread nD τ) (xbRow c) (shareTok fullShare 7 r) (Rs m k.val c)
          ∗ rsMore k.val c (peer c r) ∗ agMore k.val (peer c r) c ∗ semVal (sendAG c (peer c r)) 0) ∗ ow c (D + sumT (ta k.val c) (r :: l)))
      ⊢ wpc c (agSendP c k r) (fun _ => iprop(agFly m c k.val r ∗ ow c (D + sumT (ta k.val c) l))) := by
  rw [ow_cons]
  unfold agSendP agFly rsMore
  rw [if_pos k.isLt]
  refine pone c fun {k' Q} => ?_
  iintro ⟨#HC, ⟨Ht, Hs, ⟨Hd, #Hr⟩, HT, Hv⟩, HO⟩ Hk
  iapply (copyOut m c (devAG c k r) (src := xbMy c) (dst := xbMy c) (sS := semAt cc0_scratch10 c r) (sR := semMy cc0_scratch11 c)
      (X := Rs m k.val c) (κ := K (peer c r, some (true, c))) (r := k.val) (d := c) (q := shareTok fullShare 7 r) (agMore k.val (peer c r) c)
      (by rw [devAG_eq, semMy_eq]; rw [duties_ag m (peer c r) c k.val k.isLt (peer_ne c r).symm]; exact Finset.mem_singleton_self c)
      (by rw [devAG_eq, semMy_eq]; exact amount_ag m (peer c r) c k.val c) (credit_eq _)
      (by rw [devAG_eq, semMy_eq, xbMy_eq, payload_ag]; unfold agPay; exact .rfl) (D + sumT (ta k.val c) l))
    $$ [Ht Hs Hd HT Hv HO]
  · rw [devAG_eq, semMy_eq, xbMy_eq, semAt_eq]
    isplitr; · iapply (ctx_inv m K (peer c r, some (true, c))); iexact HC
    isplitr; · iexact Hr
    isplitl [Ht]; · iexact Ht
    isplitl [Hs]; · iexact Hs
    isplitl [Hd]; · iexact Hd
    isplitl [HT]; · iexact HT
    isplitl [Hv]; · iexact Hv
    iexact HO
  rw [semAt_eq, xbMy_eq]
  iexact Hk

theorem agRecv (k : Fin 2) (D : CellTallies nD τ sig ℕ) (hD : Above (3 + 2 * k.val) D) (r : Fin 7) (l : List (Fin 7)) :
    iprop(ctx m K ∗ iprop(cred (tallyAt (agCell c (peer c r)) k.val NN) ∗ atPos ER (agCell c (peer c r)) k.val ∅ 0) ∗ ow c D)
      ⊢ wpc c (agRecvP c r) (fun _ => iprop(iprop(atPos ER (agCell c (peer c r)) (k.val + 1) ∅ 0 ∗ reached ER (agCell c (peer c r)) (k.val + 1)
          ∗ owns (c : Thread nD τ) (xbRow (peer c r)) fullShare (Rs m k.val (peer c r)) ∗ rsGo c (k.val + 1) (peer c r)) ∗ ow c D)) := by
  unfold agRecvP
  refine pone c fun {k' Q} => ?_
  have hk : k.val < 3 := by omega
  iintro ⟨#HC, ⟨Hc, Hat⟩, HO⟩ Hk
  iapply (arrive m c (sm := semAt cc0_scratch11 c r) (κ := K (c, some (true, peer c r))) (r := k.val) hk (credit_eq _)
      (by rw [semAt_eq]; exact expect_ag m c (peer c r) k.val k.isLt (peer_ne c r))
      (by rw [semAt_eq, show (lv ((c : Thread nD τ), .dma (semOf cc0_scratch11 (peer c r))) k.val) = 3 + 2 * k.val from lv_ag c (peer c r) k.val]; exact hD) (agPay m k.val c (peer c r))
      (by rw [semAt_eq]; exact rest_ag m c (peer c r) k.val k.isLt (peer_ne c r))) $$ [Hc Hat HO]
  · rw [semAt_eq]
    isplitr; · iapply (ctx_lev m K); iexact HC
    isplitr; · iapply (ctx_inv m K (c, some (true, peer c r))); iexact HC
    isplitl [Hc]; · iexact Hc
    isplitl [Hat]; · iexact Hat
    iexact HO
  rw [semAt_eq]
  unfold agPay agMore rsGo
  iintro ⟨Hat, Hr, Hp, HO⟩
  iapply Hk
  isplitr [HO]
  · isplitl [Hat]; · iexact Hat
    isplitl [Hr] <;> iassumption
  iexact HO

theorem agDone (k : ℕ) (D : CellTallies nD τ sig ℕ) (hD : Above 0 D) (r : Fin 7) (l : List (Fin 7)) :
    iprop(ctx m K ∗ agFly m c k r ∗ ow c D)
      ⊢ wpc c (agDoneP c r) (fun _ => iprop(iprop(semVal (sendAG c (peer c r)) 0 ∗ owns (c : Thread nD τ) (xbRow c) (shareTok fullShare 7 r) (Rs m k c)) ∗ ow c D)) := by
  unfold agDoneP
  refine pone c fun {k' Q} => ?_
  iintro ⟨#HC, Hf, HO⟩ Hk
  iapply (copyWait c (sm := semAt cc0_scratch10 c r) (N := NN) (credit_eq _) (owns (c : Thread nD τ) (xbRow c) (shareTok fullShare 7 r) (Rs m k c))
      (by rw [semAt_eq]; exact lv_sendAG c (peer c r)) hD) $$ [Hf HO]
  · rw [semAt_eq]
    isplitr; · iapply (ctx_lev m K); iexact HC
    isplitl [Hf]; · unfold agFly; iexact Hf
    iexact HO
  rw [semAt_eq]
  iintro ⟨Hs, Hv, HO⟩
  iapply Hk
  isplitr [HO]
  · isplitl [Hv] <;> iassumption
  iexact HO

/-- The exchange: every device's rows in place, and leave to send the next round's partial sums. -/
theorem ag_all (k : Fin 2) (D : CellTallies nD τ sig ℕ) (hD : Above (3 + 2 * k.val) D) :
    iprop(ctx m K ∗ owns (c : Thread nD τ) (xbRow c) fullShare (Rs m k.val c) ∗ (bigSep Finset.univ fun r : Fin 7 => rsMore k.val c (peer c r))
        ∗ agToks c k.val ∗ agCrs c k.val ∗ agPoss c k.val ∗ agSems c ∗ (bigSep Finset.univ fun r : Fin 7 => agMore k.val (peer c r) c)
        ∗ ow c (D + sumT (ta k.val c) dists))
      ⊢ wpc c (agP c k) (fun _ => iprop(owns (c : Thread nD τ) xbM fullShare (Xs m (k.val + 1) c) ∗ agPoss c (k.val + 1) ∗ agReas c (k.val + 1)
        ∗ agSems c ∗ rsGos c (k.val + 1) ∗ ow c D)) := by
  unfold agP
  iintro ⟨#HC, Hx, Hg, Ht, Hc, Hp, Hv, Hm, HO⟩
  ihave Hx := (owns_toks (F := F) c (xbRow c) (Rs m k.val c)) $$ Hx
  icases Hx with ⟨Hxo, Hx⟩
  iapply (pthen c (loop7 c (agSendP c k) _ _ (fun l => ow c (D + sumT (ta k.val c) l)) (ctx m K) (agSend m K c k D))) $$ [Ht Hx Hg Hm Hv HO]
  · isplitr; · iexact HC
    isplitr [HO]
    swap; · iexact HO
    unfold agToks agSems
    iapply (zip2 Finset.univ); isplitl [Ht]; · iexact Ht
    iapply (zip2 Finset.univ); isplitl [Hx]; · iexact Hx
    iapply (zip2 Finset.univ); isplitl [Hg]; · iexact Hg
    iapply (zip2 Finset.univ); isplitl [Hm]; · iexact Hm
    iexact Hv
  iintro ⟨Hf, HO⟩
  ihave HO := (Entails.of_eq (ow_nil c D (ta k.val c))) $$ HO
  iapply (pthen c (loop7 c (agRecvP c) _ _ (fun _ => ow c D) (ctx m K) (agRecv m K c k D hD))) $$ [Hc Hp HO]
  · isplitr; · iexact HC
    isplitr [HO]
    swap; · iexact HO
    unfold agCrs agPoss
    iapply (zip2 Finset.univ); isplitl [Hc]; · iexact Hc
    iexact Hp
  iintro ⟨Hr, HO⟩
  have h0 : Above 0 D := fun g u h => ⟨(hD g u h).1, by have := (hD g u h).2; omega⟩
  iapply (wp_wand (Fr := frame) (wpE := wpE (defs₀ (F := F)) 𝒱₀ (c : Thread nD τ) none)) $$ [Hf HO]
  · iapply (loop7 c (agDoneP c) _ _ (fun _ => ow c D) (ctx m K) (agDone m K c k.val D h0))
    isplitr; · iexact HC
    isplitl [Hf] <;> iassumption
  iintro %y ⟨Hd, HO⟩
  ihave Hd := (unzip2 Finset.univ _ _) $$ Hd
  icases Hd with ⟨Hv, Hs⟩
  ihave Hr := (unzip2 Finset.univ _ _) $$ Hr
  icases Hr with ⟨Hat, Hr⟩
  ihave Hr := (unzip2 Finset.univ _ _) $$ Hr
  icases Hr with ⟨Hre, Hr⟩
  ihave Hr := (unzip2 Finset.univ _ _) $$ Hr
  icases Hr with ⟨Hrow, Hgo⟩
  isplitl [Hxo Hs Hrow]
  · rw [Xs_succ]
    iapply (owns_of_rows (F := F) c fullShare xbM (Rs m k.val))
    iapply (Entails.of_eq (bigSep_devs (F := F) c fun s => owns (c : Thread nD τ) (xbRow s) fullShare (Rs m k.val s)).symm)
    isplitl [Hxo Hs]
    · iapply (owns_toks_join (F := F) c (xbRow c) (Rs m k.val c))
      isplitl [Hxo] <;> iassumption
    iexact Hrow
  unfold agPoss agReas agSems rsGos
  isplitl [Hat]; · iexact Hat
  isplitl [Hre]; · iexact Hre
  isplitl [Hv]; · iexact Hv
  isplitl [Hgo]; · iexact Hgo
  iexact HO

end Cert.KernelIdeal.Own
-- ==== Proof.Steps.lean ====
/- The steps: the fetch of a tile of each weight two steps ahead, the wait, the arithmetic. -/
module

public import proofs.«01_k».proof.Proof.Tools

@[expose] public section

noncomputable section

namespace Cert.KernelIdeal.Own

open Idealize.ShloMosaic Idealize.SL Idealize.SL.RA Idealize.SL.BI
open scoped Idealize.SL.BI
open Idealize.SL.BI.BIBase Idealize.SL.BI.Laws Idealize.SL.ProofMode Idealize.SL.Sem
open Idealize.ShloMosaic.TcCoe
open Idealize.ShloMosaic.Rounds Idealize.ShloMosaic.Transfers
open Idealize.ShloMosaic.ValueIdx
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (c : Dev nD)

/-! ## The weights -/

/-- The weights, in the device's memory, at some shares. -/
def wts : sProp 𝕄 :=
  iprop((bigSep Finset.univ fun k : Fin 3 => iprop(∃ q, owns (c : Thread nD τ) (winM k) q (winV m c k)))
    ∗ bigSep Finset.univ fun k : Fin 3 => iprop(∃ q, owns (c : Thread nD τ) (woutM k) q (woutV m c k)))

theorem lend {I : Type} [Fintype I] [DecidableEq I] (Φ : I → sProp (MT nD τ sig ℕ (Elt F) ℕ UU ℕ)) (R : sProp 𝕄) (k : I) (h : Φ k ⊢ iprop(Φ k ∗ R)) :
    bigSep Finset.univ Φ ⊢ iprop(bigSep Finset.univ Φ ∗ R) := by
  rw [BI.bigSep_univ_at Φ k]
  iintro ⟨Hk, Hr⟩
  ihave Hk := h $$ Hk
  icases Hk with ⟨Hk, H⟩
  isplitr [H]
  · isplitl [Hk] <;> iassumption
  iexact H

theorem lend_part {sh : Shape} {e : EltTy} (M : Memref sig .tc .hbm sh e) (r : Rect sh) (hr : ∀ a, r.stride a = 1) (X : sh.Idx → Elt F e) :
    (iprop(∃ q, owns (c : Thread nD τ) M q X) : sProp 𝕄)
      ⊢ iprop(iprop(∃ q, owns (c : Thread nD τ) M q X) ∗ ∃ q, owns (c : Thread nD τ) (M.slice r hr) q fun i => X (r.emb i)) := by
  iintro ⟨%q, H⟩
  ihave H := (owns_share (F := F) c q M X) $$ H
  icases H with ⟨H1, H2⟩
  isplitl [H1]; · iexists _; iexact H1
  ihave H2 := (owns_slice_split (c : Thread nD τ) M q.right r hr X) $$ H2
  icases H2 with ⟨H2, -⟩
  iexists _; iexact H2

theorem wts_lend (k : Fin 3) (j : Fin 8) :
    wts m c ⊢ iprop(wts m c ∗ iprop(∃ q, owns (c : Thread nD τ) (srcA k j) q (tileA m c k j)) ∗ ∃ q, owns (c : Thread nD τ) (srcB k j) q (tileB m c k j)) := by
  unfold wts
  iintro ⟨Ha, Hb⟩
  ihave Ha := (lend (F := F) _ _ k (lend_part c (winM k) (Rect.unit (s := S2048x4096) ![0, 512 * j.val] S2048x512.size (inb_srcA j)) (fun _ => rfl) (winV m c k))) $$ Ha
  ihave Hb := (lend (F := F) _ _ k (lend_part c (woutM k) (Rect.unit (s := S4096x2048) ![512 * j.val, 0] S512x2048.size (inb_srcB j)) (fun _ => rfl) (woutV m c k))) $$ Hb
  icases Ha with ⟨Ha, Hsa⟩
  icases Hb with ⟨Hb, Hsb⟩
  isplitl [Ha Hb]
  · isplitl [Ha] <;> iassumption
  isplitl [Hsa]; · iexact Hsa
  iexact Hsb

/-! ## Slots -/

/-- The units a tile's transfer credits. -/
def NA : ℕ := (slotA 0).view.dmaCredit
def NB : ℕ := (slotB 0).view.dmaCredit
theorem creditA_eq (s : Fin 3) : (slotA s).view.dmaCredit = NA := rfl
theorem creditB_eq (s : Fin 3) : (slotB s).view.dmaCredit = NB := rfl
theorem NA_pos : 0 < NA := View.dmaCredit_pos _ (by decide)
theorem NB_pos : 0 < NB := View.dmaCredit_pos _ (by decide)

theorem lv_semA (s : Fin 3) : lv ((c : Thread nD τ), .dma (semA s)) 0 = 0 := by
  dsimp only [lv]; rw [semA_eq]; revert s; decide +kernel
theorem lv_semB (s : Fin 3) : lv ((c : Thread nD τ), .dma (semB s)) 0 = 0 := by
  dsimp only [lv]; rw [semB_eq]; revert s; decide +kernel

/-- A slot nothing is being fetched into. -/
def idle (s : Fin 3) : sProp 𝕄 :=
  iprop(some1 c (slotA s) ∗ some1 c (slotB s) ∗ semVal ((c : Thread nD τ), .dma (semA s)) 0 ∗ semVal ((c : Thread nD τ), .dma (semB s)) 0)
/-- The fetches of step `t`. -/
def fl (t : Fin 24) : sProp 𝕄 :=
  iprop(Flight EC (c : Thread nD τ) (.dma (semA (sOf t))) 0 NA (owns (c : Thread nD τ) (slotA (sOf t)) fullShare (tileA m c (kOf t) (jOf t)))
    ∗ Flight EC (c : Thread nD τ) (.dma (semB (sOf t))) 0 NB (owns (c : Thread nD τ) (slotB (sOf t)) fullShare (tileB m c (kOf t) (jOf t))))
abbrev slotNo (u : ℕ) : Fin 3 := ⟨u % 3, Nat.mod_lt _ (by decide)⟩
/-- Step `u`'s slot while its fetches run, past the last step idle. -/
def pend (u : ℕ) : sProp 𝕄 := if h : u < 24 then fl m c ⟨u, h⟩ else idle c (slotNo u)
/-- Before step `u`: its fetches and the next step's run, the third slot is idle. -/
def slots (u : ℕ) : sProp 𝕄 := iprop(pend m c u ∗ pend m c (u + 1) ∗ idle (F := F) c (slotNo (u + 2)))

theorem fetched (t : Fin 24) :
    iprop(wts m c ∗ idle c (sOf t)) ⊢ wpc c (fetchP t) (fun _ => iprop(wts m c ∗ fl m c t)) := by
  unfold fetchP idle fl
  simp only [Prog.bind_lift]
  iintro ⟨Hw, Ha, Hb, Hva, Hvb⟩
  ihave Hw := (wts_lend m c (kOf t) (jOf t)) $$ Hw
  icases Hw with ⟨Hw, ⟨%qa, Hsa⟩, ⟨%qb, Hsb⟩⟩
  iapply (copyIn c (src := srcA (kOf t) (jOf t)) (dst := slotA (sOf t)) (sm := semA (sOf t)) (q := qa) (X := tileA m c (kOf t) (jOf t)) NA (creditA_eq _) NA_pos) $$ [Hsa Ha Hva]
  · isplitl [Hsa]; · iexact Hsa
    isplitl [Ha] <;> iassumption
  iintro Hfa
  unfold Prog.lift
  iapply (copyIn c (src := srcB (kOf t) (jOf t)) (dst := slotB (sOf t)) (sm := semB (sOf t)) (q := qb) (X := tileB m c (kOf t) (jOf t)) NB (creditB_eq _) NB_pos) $$ [Hsb Hb Hvb]
  · isplitl [Hsb]; · iexact Hsb
    isplitl [Hb] <;> iassumption
  iintro Hfb
  iapply (pdone c (Q := fun _ => _))
  isplitl [Hw]; · iexact Hw
  isplitl [Hfa] <;> iassumption

/-- The step's tiles in place. -/
def here (t : Fin 24) : sProp 𝕄 :=
  iprop(owns (c : Thread nD τ) (slotA (sOf t)) fullShare (tileA m c (kOf t) (jOf t)) ∗ owns (c : Thread nD τ) (slotB (sOf t)) fullShare (tileB m c (kOf t) (jOf t)))

theorem awaited (t : Fin 24) (D : CellTallies nD τ sig ℕ) (hD : Above 0 D) :
    iprop(levAts L lv ∗ fl m c t ∗ ow c D) ⊢ wpc c (awaitP t) (fun _ => iprop(here m c t
      ∗ semVal ((c : Thread nD τ), .dma (semA (sOf t))) 0 ∗ semVal ((c : Thread nD τ), .dma (semB (sOf t))) 0 ∗ ow c D)) := by
  unfold awaitP fl here
  simp only [Prog.bind_lift]
  iintro ⟨#HC, ⟨Ha, Hb⟩, HO⟩
  iapply (copyWait c (sm := semA (sOf t)) (N := NA) (creditA_eq (sOf t)) _ (lv_semA c _) hD) $$ [Ha HO]
  · isplitr; · iexact HC
    isplitl [Ha] <;> iassumption
  iintro ⟨Ha, Hva, HO⟩
  unfold Prog.lift
  iapply (copyWait c (sm := semB (sOf t)) (N := NB) (creditB_eq (sOf t)) _ (lv_semB c _) hD) $$ [Hb HO]
  · isplitr; · iexact HC
    isplitl [Hb] <;> iassumption
  iintro ⟨Hb, Hvb, HO⟩
  iapply (pdone c (Q := fun _ => _))
  isplitl [Ha Hb]; · isplitl [Ha] <;> iassumption
  isplitl [Hva]; · iexact Hva
  isplitl [Hvb] <;> iassumption

/-! ## The arithmetic -/

/-- Contents with a unit axis put back. -/
def unsq {α : Type} {sl st : Shape} (hs : sl.Squeezes st) (T : st.Idx → α) : sl.Idx → α := fun i => T ((Shape.reshapeEquiv hs.numel_eq).symm i)

/-- A load of a slot, as the whole buffer's part. -/
theorem ldSlot {sh st : Shape} {e : EltTy} {Q : PUnit.{1} → sProp (MT nD τ sig ℕ (Elt F) ℕ UU ℕ)} (M : Memref sig .tc .vmem sh e) (r : Rect sh) (hr : ∀ a, r.stride a = 1)
    (hs : r.shape.Squeezes st) {hl : M.view.LoadsAt r.toLoadRect} {T : st.Idx → Elt F e} {k : (r.toLoadRect.shape.Idx → Elt F e) → P F} :
    (owns (c : Thread nD τ) ((M.slice r hr).squeeze st hs) fullShare T : sProp 𝕄)
      ⊢ iprop((owns (c : Thread nD τ) ((M.slice r hr).squeeze st hs) fullShare T -∗ wpc c (k (unsq hs T)) Q)
        -∗ wpc c (.op (.load M r.toLoadRect hl) k) Q) := by
  have e := owns_squeeze (F := F) c fullShare (M.slice r hr) hs (unsq hs T)
  unfold unsq at e
  simp only [Equiv.symm_apply_apply] at e
  have e' : (owns (c : Thread nD τ) ((M.slice r hr).squeeze st hs) fullShare T : sProp 𝕄)
      = owns (c : Thread nD τ) (M.slice r hr) fullShare (unsq hs T) := e
  rw [e']
  exact ldPart c fullShare M r hr

/-- The accumulator before tile `n`. -/
def accAt (k : Fin 3) (X : Vec F S64x2048 .bf16) : ℕ → sProp 𝕄
  | 0 => some1 c accM
  | n + 1 => owns (c : Thread nD τ) accM fullShare (accUp X (tileA m c k) (tileB m c k) n)

theorem castA (T : FVec F S2048x512 .f32) :
    shapeCast S2048x512 (unsq squeezes_S1x2048x512_S2048x512 T) shapeCasts_S1x2048x512_S2048x512 = T := by
  funext y
  exact congrArg T (Equiv.symm_apply_apply _ y)
theorem castB (T : FVec F S512x2048 .f32) :
    shapeCast S512x2048 (unsq squeezes_S1x512x2048_S512x2048 T) shapeCasts_S1x512x2048_S512x2048 = T := by
  funext y
  exact congrArg T (Equiv.symm_apply_apply _ y)

theorem mathed (t : Fin 24) (X : Vec F S64x2048 .bf16) :
    iprop(owns (c : Thread nD τ) xbM fullShare X ∗ here m c t ∗ accAt m c (kOf t) X (t.val % 8))
      ⊢ wpc c (mathP t) (fun _ => iprop(owns (c : Thread nD τ) xbM fullShare X ∗ here m c t ∗ accAt m c (kOf t) X (t.val % 8 + 1))) := by
  unfold mathP here
  simp only [Prog.bind_lift]
  have hz : (![0, 0] : Fin 2 → ℕ) = fun _ => 0 := by decide
  iintro ⟨Hx, ⟨Ha, Hb⟩, Hc⟩
  iapply (ldAll c fullShare xbM (off := ![0, 0]) hz inb_S64x2048_S64x2048_0_0) $$ Hx
  iintro Hx
  iapply (ldSlot c waM (RA (sOf t)) (fun _ => rfl) squeezes_S1x2048x512_S2048x512) $$ Ha
  iintro Ha
  iapply (ldSlot c wbM (RB (sOf t)) (fun _ => rfl) squeezes_S1x512x2048_S512x2048) $$ Hb
  iintro Hb
  by_cases h : t.val % 8 = 0
  · have hj : jOf t = 0 := Fin.ext h
    rw [if_pos h, h, firstPay_eq]
    unfold accAt some1 accUp
    icases Hc with ⟨%Y, Hc⟩
    iapply (ldAll c fullShare accM (off := ![0, 0]) hz inb_S64x2048_S64x2048_0_0) $$ Hc
    iintro Hc
    unfold Prog.lift
    iapply (stAll c accM (off := ![0, 0]) hz inb_S64x2048_S64x2048_0_0) $$ Hc
    iintro Hc
    iapply (pdone c (Q := fun _ => _))
    isplitl [Hx]; · iexact Hx
    isplitl [Ha Hb]; · isplitl [Ha] <;> iassumption
    rw [← hj]
    have e := congrArg₂ (firstVal X) (castA (tileA m c (kOf t) (jOf t))) (castB (tileB m c (kOf t) (jOf t)))
    rw [← e]
    iexact Hc
  · obtain ⟨n, hn⟩ : ∃ n, t.val % 8 = n + 1 := ⟨t.val % 8 - 1, by omega⟩
    have hj : jOf t = ⟨(n + 1) % 8, Nat.mod_lt _ (by decide)⟩ := Fin.ext (by show t.val % 8 = (n + 1) % 8; omega)
    rw [if_neg h, hn]
    unfold accAt
    iapply (ldAll c fullShare accM (off := ![0, 0]) hz inb_S64x2048_S64x2048_0_0) $$ Hc
    iintro Hc
    iapply (ldAll c fullShare accM (off := ![0, 0]) hz inb_S64x2048_S64x2048_0_0) $$ Hc
    iintro Hc
    unfold Prog.lift
    rw [nextPay_eq]
    iapply (stAll c accM (off := ![0, 0]) hz inb_S64x2048_S64x2048_0_0) $$ Hc
    iintro Hc
    iapply (pdone c (Q := fun _ => _))
    isplitl [Hx]; · iexact Hx
    isplitl [Ha Hb]; · isplitl [Ha] <;> iassumption
    have e := congrArg₂ (fun a b => nextVal X a b (accUp X (tileA m c (kOf t)) (tileB m c (kOf t)) n)) (castA (tileA m c (kOf t) (jOf t))) (castB (tileB m c (kOf t) (jOf t)))
    have e' : accUp X (tileA m c (kOf t)) (tileB m c (kOf t)) (n + 1)
        = nextVal X (tileA m c (kOf t) (jOf t)) (tileB m c (kOf t) (jOf t)) (accUp X (tileA m c (kOf t)) (tileB m c (kOf t)) n) := by
      rw [hj]; rfl
    iapply (Entails.of_eq (congrArg (fun Y => (owns (c : Thread nD τ) accM fullShare Y : sProp 𝕄)) (e.trans e'.symm)))
    iexact Hc

/-! ## A step, a layer's steps -/

/-- Before tile `n` of layer `k`. -/
def stepSt (k : Fin 3) (X : Vec F S64x2048 .bf16) (D : CellTallies nD τ sig ℕ) (n : ℕ) : sProp 𝕄 :=
  iprop(wts m c ∗ slots m c (8 * k.val + n) ∗ owns (c : Thread nD τ) xbM fullShare X ∗ accAt m c k X n ∗ ow c D)

theorem ahead (t : Fin 24) :
    iprop(wts m c ∗ idle c (slotNo (t.val + 2))) ⊢ wpc c (if h : t.val + 2 < 24 then fetchP ⟨t.val + 2, h⟩ else pure ⟨⟩) (fun _ => iprop(wts m c ∗ pend m c (t.val + 2))) := by
  by_cases h : t.val + 2 < 24
  · unfold pend
    rw [dif_pos h, dif_pos h]
    exact fetched m c ⟨t.val + 2, h⟩
  · unfold pend
    rw [dif_neg h, dif_neg h]
    iintro H
    iapply (pdone c (Q := fun _ => _))
    iexact H

theorem stepP_eq (t : Fin 24) :
    (stepP t : P F) = (if h : t.val + 2 < 24 then fetchP ⟨t.val + 2, h⟩ else pure ⟨⟩) >>= fun _ => awaitP t >>= fun _ => mathP t := by
  unfold stepP
  by_cases h : t.val + 2 < 24
  · simp only [dif_pos h]
  · simp only [dif_neg h]; rfl

theorem stepped (k : Fin 3) (X : Vec F S64x2048 .bf16) (D : CellTallies nD τ sig ℕ) (hD : Above 0 D) (n : ℕ) (hn : n < 8) (t : Fin 24) (ht : t.val = 8 * k.val + n) :
    iprop(levAts L lv ∗ stepSt m c k X D n) ⊢ wpc c (stepP t) (fun _ => stepSt m c k X D (n + 1)) := by
  have hk : kOf t = k := Fin.ext (by show t.val / 8 = k.val; omega)
  have hmod : t.val % 8 = n := by omega
  rw [stepP_eq]
  unfold stepSt slots
  rw [← Nat.add_assoc, ← ht]
  iintro ⟨#HL, Hw, ⟨Hp0, Hp1, Hi⟩, Hx, Ha, HO⟩
  iapply (pthen c (ahead m c t)) $$ [Hw Hi]
  · isplitl [Hw] <;> iassumption
  iintro ⟨Hw, Hp2⟩
  ihave Hp0 := (Entails.of_eq (show pend m c t.val = fl m c t from dif_pos t.isLt)) $$ Hp0
  iapply (pthen c (awaited m c t D hD)) $$ [Hp0 HO]
  · isplitr; · iexact HL
    isplitl [Hp0] <;> iassumption
  iintro ⟨Hh, Hva, Hvb, HO⟩
  iapply (wp_wand (Fr := frame) (wpE := wpE (defs₀ (F := F)) 𝒱₀ (c : Thread nD τ) none)) $$ [Hx Hh Ha]
  · iapply (mathed m c t X)
    rw [hk, hmod]
    isplitl [Hx]; · iexact Hx
    isplitl [Hh] <;> iassumption
  iintro %y
  rw [hk, hmod]
  iintro ⟨Hx, Hh, Ha⟩
  isplitl [Hw]; · iexact Hw
  isplitr [Hx Ha HO]
  · isplitl [Hp1]; · iexact Hp1
    isplitl [Hp2]; · iexact Hp2
    rw [show slotNo (t.val + 1 + 2) = sOf t from Fin.ext (by show (t.val + 1 + 2) % 3 = t.val % 3; omega)]
    unfold here idle
    icases Hh with ⟨H1, H2⟩
    isplitl [H1]; · iapply (some1_intro c (slotA (sOf t)) _); iexact H1
    isplitl [H2]; · iapply (some1_intro c (slotB (sOf t)) _); iexact H2
    isplitl [Hva] <;> iassumption
  isplitl [Hx]; · iexact Hx
  isplitl [Ha] <;> iassumption

theorem steps (k : Fin 3) (X : Vec F S64x2048 .bf16) (D : CellTallies nD τ sig ℕ) (hD : Above 0 D) :
    ∀ (l : List (Fin 24)) (n : ℕ), n ≤ 8 → l.map Fin.val = List.range' (8 * k.val + n) (8 - n) →
      iprop(levAts L lv ∗ stepSt m c k X D n) ⊢ wpc c (seqP stepP l) (fun _ => stepSt m c k X D 8)
  | [], n, hn, h => by
    have e : 8 - n = 0 := by simpa using (congrArg List.length h).symm
    obtain rfl : n = 8 := by omega
    unfold seqP
    iintro ⟨-, H⟩
    iapply (pdone c (Q := fun _ => _))
    iexact H
  | t :: l, n, hn, h => by
    have hl : l.length + 1 = 8 - n := by simpa using congrArg List.length h
    obtain ⟨j, hj⟩ : ∃ j, 8 - n = j + 1 := ⟨l.length, hl.symm⟩
    rw [hj, List.range'_succ, List.map_cons, List.cons.injEq] at h
    have ih := steps k X D hD l (n + 1) (by omega) (by rw [h.2]; congr 1; omega)
    show _ ⊢ wpc c (stepP t >>= fun _ => seqP stepP l) _
    iintro ⟨#HL, H⟩
    iapply (pthen c (stepped m c k X D hD n (by omega) t h.1)) $$ [H]
    · isplitr; · iexact HL
      iexact H
    iintro H
    iapply ih
    isplitr; · iexact HL
    iexact H

theorem acc_done (k : Fin 3) (X : Vec F S64x2048 .bf16) :
    accAt m c k X 8 = owns (c : Thread nD τ) accM fullShare (accOf m k.val c X) := by
  have h : lay k.val = k := Fin.ext (Nat.mod_eq_of_lt k.isLt)
  unfold accOf
  rw [h]
  rfl

end Cert.KernelIdeal.Own
-- ==== Proof.Body.lean ====
/- The layers and the whole body on one device. -/
module

public import proofs.«01_k».proof.Proof.Ag
public import proofs.«01_k».proof.Proof.Steps

@[expose] public section

noncomputable section

namespace Cert.KernelIdeal.Own

open Idealize.ShloMosaic Idealize.SL Idealize.SL.RA Idealize.SL.BI
open scoped Idealize.SL.BI
open Idealize.SL.BI.BIBase Idealize.SL.BI.Laws Idealize.SL.ProofMode Idealize.SL.Sem
open Idealize.ShloMosaic.TcCoe
open Idealize.ShloMosaic.Rounds Idealize.ShloMosaic.Transfers
open Idealize.ShloMosaic.ValueIdx
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (K : Dev nD × CI → ℕ) (c : Dev nD)

/-! ## Persistent facts beside every peer's resource -/

theorem with_pers {I : Type} [Fintype I] [DecidableEq I] (A B : I → sProp (MT nD τ sig ℕ (Elt F) ℕ UU ℕ)) (P : sProp 𝕄) [BI.Persistent P]
    (h : ∀ i, iprop(P ∗ A i) ⊢ B i) : iprop(P ∗ bigSep Finset.univ A) ⊢ bigSep Finset.univ B := by
  exact BI.bigSep_with_persistent fun i _ => h i

theorem ctx_agReas : ctx m K ⊢ agReas (F := F) c 0 := by
  unfold agReas
  iintro #H
  iapply (with_pers (F := F) (fun _ : Fin 7 => iprop(emp)) _ (ctx m K) fun r => by
    iintro ⟨H, -⟩; iapply (ctx_reached m K (c, some (true, peer c r))) $$ H)
  isplitr; · iexact H
  iapply (show (iprop(emp) : sProp 𝕄) ⊢ bigSep Finset.univ fun _ : Fin 7 => iprop(emp) from Entails.of_eq (BI.bigSep_emp_const _).symm)
  iempintro

theorem gos_intro : iprop(ctx m K ∗ bigSep Finset.univ fun r : Fin 7 => some1 (peer c r) (rsSlot c)) ⊢ rsGos (F := F) c 0 := by
  unfold rsGos rsGo
  refine with_pers (F := F) _ _ (ctx m K) fun r => ?_
  iintro ⟨H, Hs⟩
  isplitl [Hs]; · iexact Hs
  iapply (ctx_reached m K (peer c r, some (false, c))) $$ H

theorem more_intro (k : Fin 2) : iprop(agReas c k.val ∗ xbPeers c) ⊢ bigSep Finset.univ fun r : Fin 7 => rsMore (F := F) k.val (peer c r) c := by
  have e : (fun r : Fin 7 => rsMore (F := F) k.val (peer c r) c) = fun r => iprop(some1 c (xbRow (peer c r)) ∗ reached ER (agCell c (peer c r)) k.val) :=
    funext fun r => if_pos k.isLt
  rw [e]
  unfold agReas xbPeers
  iintro ⟨H1, H2⟩
  iapply (zip2 Finset.univ)
  isplitl [H2] <;> iassumption

theorem agMore_intro (k : ℕ) : iprop(rsReas c (k + 1) ∗ slPeers c) ⊢ bigSep Finset.univ fun r : Fin 7 => agMore (F := F) k (peer c r) c := by
  unfold rsReas slPeers agMore
  iintro ⟨H1, H2⟩
  iapply (zip2 Finset.univ)
  isplitl [H2] <;> iassumption

theorem none_intro : iprop(emp) ⊢ bigSep Finset.univ fun r : Fin 7 => rsMore (F := F) 2 (peer c r) c := by
  rw [show (fun r : Fin 7 => rsMore (F := F) 2 (peer c r) c) = fun _ => iprop(emp) from funext fun r => if_neg (by decide)]
  exact Entails.of_eq (BI.bigSep_emp_const _).symm

/-- The activations as rows at any contents. -/
theorem xb_split (X : Vec F S64x2048 .bf16) : (owns (c : Thread nD τ) xbM fullShare X : sProp 𝕄) ⊢ iprop(some1 c (xbRow c) ∗ xbPeers c) := by
  unfold xbPeers
  rw [← bigSep_devs (F := F) c fun s => some1 c (xbRow s)]
  exact (owns_rows (F := F) c fullShare xbM X).trans (BI.bigSep_mono fun s _ => some1_intro c (xbRow s) _)

theorem got_intro (k : ℕ) :
    iprop(some1 c (rsSlot c) ∗ bigSep Finset.univ fun r : Fin 7 => rsPay m k c (peer c r))
      ⊢ iprop(rsGot m c k ∗ bigSep Finset.univ fun r : Fin 7 => rsMore (F := F) k c (peer c r)) := by
  unfold rsGot rsPay
  iintro ⟨Ho, Hp⟩
  ihave Hp := (unzip2 Finset.univ _ _) $$ Hp
  icases Hp with ⟨Hp, Hm⟩
  isplitr [Hm]
  · isplitl [Ho] <;> iassumption
  iexact Hm

/-! ## A layer -/

/-- Between layers, before layer `k`. -/
def between (k : ℕ) : sProp 𝕄 :=
  iprop(wts m c ∗ slots m c (8 * k) ∗ owns (c : Thread nD τ) xbM fullShare (Xs m k c) ∗ some1 c accM ∗ some1 c sbM ∗ some1 c (rsSlot c) ∗ rsGos c k
    ∗ rsPoss c k ∗ agPoss c k ∗ agReas c k ∗ rsSems c ∗ agSems c)

theorem layered (k : Fin 3) (k' : Fin 2) (hk : k'.val = k.val) (D : CellTallies nD τ sig ℕ) (hD : Above (3 + 2 * k.val) D) :
    iprop(ctx m K ∗ between m c k.val ∗ rsToks c k.val ∗ rsCrs c k.val ∗ agToks c k.val ∗ agCrs c k.val
        ∗ ow c ((D + sumT (ta k.val c) dists) + sumT (tr k.val c) dists))
      ⊢ wpc c (layerP c k k') (fun _ => iprop(between m c (k.val + 1) ∗ ow c D)) := by
  have hk2 : k.val < 2 := by omega
  have hA : Above (2 + 2 * k.val) (D + sumT (ta k.val c) dists) :=
    above_add (fun g u h => ⟨(hD g u h).1, by have := (hD g u h).2; omega⟩) (above_ta c _ hk2 (by omega))
  have hB : Above 0 ((D + sumT (ta k.val c) dists) + sumT (tr k.val c) dists) :=
    above_add (fun g u h => ⟨(hA g u h).1, by have := (hA g u h).2; omega⟩) (above_tr c _ k.isLt (by omega))
  unfold layerP between
  iintro ⟨#HC, ⟨Hw, Hsl, Hx, Ha, Hsb, Hown, Hgo, Hrp, Hap, #Hare, Hrv, Hav⟩, Hrt, Hrc, Hat, Hac, HO⟩
  iapply (pthen c (steps m c k (Xs m k.val c) _ hB (stepsOf k) 0 (by decide) (by simp [List.range'_succ]))) $$ [Hw Hsl Hx Ha HO]
  · isplitr; · iapply (ctx_lev m K); iexact HC
    unfold stepSt accAt
    isplitl [Hw]; · iexact Hw
    isplitl [Hsl]; · iexact Hsl
    isplitl [Hx]; · iexact Hx
    isplitl [Ha] <;> iassumption
  unfold stepSt
  iintro ⟨Hw, Hsl, Hx, Ha, HO⟩
  ihave Ha := (Entails.of_eq (acc_done m c k (Xs m k.val c))) $$ Ha
  ihave Hx := (xb_split (F := F) c _) $$ Hx
  icases Hx with ⟨Hxo, Hxp⟩
  iapply (pthen c (rs_all m K c k (D + sumT (ta k.val c) dists) hA)) $$ [Ha Hsb Hgo Hrt Hrc Hrp Hrv Hxp HO]
  · isplitr; · iexact HC
    isplitl [Ha]; · unfold As; iexact Ha
    isplitl [Hsb]; · iexact Hsb
    isplitl [Hgo]; · iexact Hgo
    isplitl [Hrt]; · iexact Hrt
    isplitl [Hrc]; · iexact Hrc
    isplitl [Hrp]; · iexact Hrp
    isplitl [Hrv]; · iexact Hrv
    isplitl [Hxp]
    · iapply (more_intro (F := F) c ⟨k.val, hk2⟩)
      isplitr; · iexact Hare
      iexact Hxp
    iexact HO
  iintro ⟨Ha, Hsb, Hrp, #Hrre, Hrv, Hpay, HO⟩
  ihave Hg := (got_intro m c k.val) $$ [Hown Hpay]
  · isplitl [Hown] <;> iassumption
  icases Hg with ⟨Hg, Hmore⟩
  iapply (pthen c (reduced m c k.val)) $$ [Ha Hg Hxo]
  · isplitl [Ha]; · iexact Ha
    isplitl [Hg] <;> iassumption
  iintro ⟨Ha, Hown, Hsp, Hxo⟩
  iapply (wp_wand (Fr := frame) (wpE := wpE (defs₀ (F := F)) 𝒱₀ (c : Thread nD τ) none)) $$ [Hxo Hmore Hat Hac Hap Hav Hsp HO]
  · have h := ag_all m K c k' D (by rw [hk]; exact hD)
    rw [hk] at h
    iapply h
    isplitr; · iexact HC
    isplitl [Hxo]; · iexact Hxo
    isplitl [Hmore]; · iexact Hmore
    isplitl [Hat]; · iexact Hat
    isplitl [Hac]; · iexact Hac
    isplitl [Hap]; · iexact Hap
    isplitl [Hav]; · iexact Hav
    isplitl [Hsp]
    · iapply (agMore_intro (F := F) c k.val)
      isplitr; · iexact Hrre
      iexact Hsp
    iexact HO
  iintro %y ⟨Hx, Hap, #Hare', Hav, Hgo, HO⟩
  isplitr [HO]
  · isplitl [Hw]; · iexact Hw
    isplitl [Hsl]; · iexact Hsl
    isplitl [Hx]; · iexact Hx
    isplitl [Ha]; · iapply (some1_intro c accM _); iexact Ha
    isplitl [Hsb]; · iexact Hsb
    isplitl [Hown]; · iexact Hown
    isplitl [Hgo]; · iexact Hgo
    isplitl [Hrp]; · iexact Hrp
    isplitl [Hap]; · iexact Hap
    isplitr; · iexact Hare'
    isplitl [Hrv] <;> iassumption
  iexact HO

/-! ## The body -/

/-- Its resources at the start, the context apart. -/
def bodyIn : sProp 𝕄 :=
  iprop((bigSep Finset.univ fun r : Fin 7 => dutyTok ER (barCell (peer c r)) 0 c) ∗ cred (tallyAt (barCell c) 0 7) ∗ atPos ER (barCell c) 0 ∅ 0
    ∗ rsToks c 0 ∗ rsToks c 1 ∗ rsToks c 2 ∗ agToks c 0 ∗ agToks c 1
    ∗ rsCrs c 0 ∗ rsCrs c 1 ∗ rsCrs c 2 ∗ agCrs c 0 ∗ agCrs c 1
    ∗ rsPoss c 0 ∗ agPoss c 0 ∗ rsSems c ∗ agSems c ∗ wts m c ∗ idle c 0 ∗ idle c 1 ∗ idle c 2
    ∗ some1 c xbM ∗ some1 c accM ∗ some1 c sbM ∗ some1 c rsM)
/-- at the end. -/
def bodyOut : sProp 𝕄 :=
  iprop(atPos ER (barCell c) 1 ∅ 0 ∗ rsPoss c 3 ∗ agPoss c 2 ∗ rsSems c ∗ agSems c ∗ wts m c ∗ idle c 0 ∗ idle c 1 ∗ idle c 2
    ∗ some1 c xbM ∗ some1 c accM ∗ some1 c sbM ∗ some1 c rsM)

theorem loaded (q : PosShare TreeShare) :
    iprop(owns (c : Thread nD τ) xM q (xV m c) ∗ some1 c xbM)
      ⊢ wpc c loadXP (fun _ => iprop(owns (c : Thread nD τ) xM q (xV m c) ∗ owns (c : Thread nD τ) xbM fullShare (Xs m 0 c))) := by
  unfold loadXP some1
  simp only [Prog.bind_lift]
  have hz : (![0, 0] : Fin 2 → ℕ) = fun _ => 0 := by decide
  iintro ⟨Ha, ⟨%X, Hs⟩⟩
  iapply (ldAll c q xM (off := ![0, 0]) hz inb_S64x2048_S64x2048_0_0) $$ Ha
  iintro Ha
  iapply (ldAll c fullShare xbM (off := ![0, 0]) hz inb_S64x2048_S64x2048_0_0) $$ Hs
  iintro Hs
  unfold Prog.lift
  iapply (stAll c xbM (off := ![0, 0]) hz inb_S64x2048_S64x2048_0_0) $$ Hs
  iintro Hs
  iapply (pdone c (Q := fun _ => _))
  isplitl [Ha]; · iexact Ha
  iexact Hs

theorem rs_join : iprop(some1 c (rsSlot c) ∗ slPeers c) ⊢ (some1 (F := F) c rsM : sProp 𝕄) := by
  unfold slPeers
  rw [← bigSep_devs (F := F) c fun s => some1 c (rsSlot s)]
  unfold some1
  haveI : Nonempty (S8x2048.Idx → Elt F .bf16) := ⟨fun _ => FloatOps.ofBits .bf16 0#16⟩
  refine (BI.bigSep_exists_pi _ _).trans ?_
  iintro ⟨%Y, H⟩
  iexists (stack Y)
  iapply (owns_of_slots (F := F) c fullShare Y) $$ H

theorem last :
    iprop(ctx m K ∗ between m c 2 ∗ rsToks c 2 ∗ rsCrs c 2 ∗ some1 c outM ∗ ow c (D5 c))
      ⊢ wpc c (seqP stepP (stepsOf 2) >>= fun _ => rsP c 2 >>= fun _ => finishP c) (fun _ => iprop(wts m c ∗ slots m c 24 ∗ some1 c xbM ∗ some1 c accM ∗ some1 c sbM
          ∗ some1 c rsM ∗ rsPoss c 3 ∗ agPoss c 2 ∗ rsSems c ∗ agSems c ∗ owns (c : Thread nD τ) outM fullShare (outV m c) ∗ ow c 0)) := by
  unfold between
  iintro ⟨#HC, ⟨Hw, Hsl, Hx, Ha, Hsb, Hown, Hgo, Hrp, Hap, -, Hrv, Hav⟩, Hrt, Hrc, Ho, HO⟩
  iapply (pthen c (steps m c 2 (Xs m 2 c) (D5 c) (above_D5 c (by decide)) (stepsOf 2) 0 (by decide) (by decide))) $$ [Hw Hsl Hx Ha HO]
  · isplitr; · iapply (ctx_lev m K); iexact HC
    unfold stepSt accAt
    isplitl [Hw]; · iexact Hw
    isplitl [Hsl]; · iexact Hsl
    isplitl [Hx]; · iexact Hx
    isplitl [Ha] <;> iassumption
  unfold stepSt
  iintro ⟨Hw, Hsl, Hx, Ha, HO⟩
  ihave Ha := (Entails.of_eq (acc_done m c 2 (Xs m 2 c))) $$ Ha
  iapply (pthen c (rs_all m K c 2 0 (above_zero _))) $$ [Ha Hsb Hgo Hrt Hrc Hrp Hrv HO]
  · isplitr; · iexact HC
    isplitl [Ha]; · unfold As; iexact Ha
    isplitl [Hsb]; · iexact Hsb
    isplitl [Hgo]; · iexact Hgo
    isplitl [Hrt]; · iexact Hrt
    isplitl [Hrc]; · iexact Hrc
    isplitl [Hrp]; · iexact Hrp
    isplitl [Hrv]; · iexact Hrv
    isplitr
    · iapply (none_intro (F := F) c); iempintro
    unfold D5
    iexact HO
  iintro ⟨Ha, Hsb, Hrp, -, Hrv, Hpay, HO⟩
  ihave Hg := (got_intro m c 2) $$ [Hown Hpay]
  · isplitl [Hown]; · iexact Hown
    iexact Hpay
  icases Hg with ⟨Hg, -⟩
  iapply (wp_wand (Fr := frame) (wpE := wpE (defs₀ (F := F)) 𝒱₀ (c : Thread nD τ) none)) $$ [Ha Hg Ho]
  · iapply (finished m c)
    isplitl [Ha]; · iexact Ha
    isplitl [Hg] <;> iassumption
  iintro %y ⟨Ha, Hown, Hsp, Ho⟩
  isplitl [Hw]; · iexact Hw
  isplitl [Hsl]; · iexact Hsl
  isplitl [Hx]; · iapply (some1_intro c xbM _); iexact Hx
  isplitl [Ha]; · iapply (some1_intro c accM _); iexact Ha
  isplitl [Hsb]; · iexact Hsb
  isplitl [Hown Hsp]
  · iapply (rs_join (F := F) c)
    isplitl [Hown] <;> iassumption
  isplitl [Hrp]; · iexact Hrp
  isplitl [Hap]; · iexact Hap
  isplitl [Hrv]; · iexact Hrv
  isplitl [Hav]; · iexact Hav
  isplitl [Ho] <;> iassumption

/-- The whole body. -/
theorem body_at (q : PosShare TreeShare) :
    iprop(ctx m K ∗ bodyIn m c ∗ owns (c : Thread nD τ) xM q (xV m c) ∗ some1 c outM ∗ ow c (D0 c))
      ⊢ wpc c (bodyAtP c) (fun _ => iprop(bodyOut m c ∗ owns (c : Thread nD τ) xM q (xV m c) ∗ owns (c : Thread nD τ) outM fullShare (outV m c) ∗ ow c 0)) := by
  unfold bodyAtP bodyIn
  iintro ⟨#HC, ⟨Hbt, Hbc, Hbp, Hrt0, Hrt1, Hrt2, Hat0, Hat1, Hrc0, Hrc1, Hrc2, Hac0, Hac1, Hrp, Hap, Hrv, Hav, Hw, Hi0, Hi1, Hi2, Hxb, Ha, Hsb, Hrs⟩, Hx, Ho, HO⟩
  ihave Hrs := (show some1 (F := F) c rsM ⊢ iprop(some1 c (rsSlot c) ∗ slPeers c) from by
    unfold some1; iintro ⟨%X, H⟩; iapply (got_split (F := F) c 0 X) $$ H) $$ Hrs
  icases Hrs with ⟨Hown, Hsp⟩
  iapply (pthen c (barrier_all m K c)) $$ [Hbt Hsp Hbc Hbp HO]
  · isplitr; · iexact HC
    isplitl [Hbt]; · iexact Hbt
    isplitl [Hsp]; · unfold slPeers; iexact Hsp
    isplitl [Hbc]; · iexact Hbc
    isplitl [Hbp] <;> iassumption
  iintro ⟨Hbp, Hgo, HO⟩
  ihave Hgo := (gos_intro m K c) $$ [Hgo]
  · isplitr; · iexact HC
    iexact Hgo
  iapply (pthen c (fetched m c 0)) $$ [Hw Hi0]
  · isplitl [Hw]; · iexact Hw
    iexact Hi0
  iintro ⟨Hw, Hf0⟩
  iapply (pthen c (fetched m c 1)) $$ [Hw Hi1]
  · isplitl [Hw]; · iexact Hw
    iexact Hi1
  iintro ⟨Hw, Hf1⟩
  iapply (pthen c (loaded m c q)) $$ [Hx Hxb]
  · isplitl [Hx] <;> iassumption
  iintro ⟨Hx, Hxb⟩
  iapply (pthen c (layered m K c 0 0 rfl (D3 c) (above_D3 c (by decide)))) $$ [Hw Hf0 Hf1 Hi2 Hxb Ha Hsb Hown Hgo Hrp Hap Hrv Hav Hrt0 Hrc0 Hat0 Hac0 HO]
  · isplitr; · iexact HC
    isplitr [Hrt0 Hrc0 Hat0 Hac0 HO]
    · unfold between slots
      isplitl [Hw]; · iexact Hw
      isplitl [Hf0 Hf1 Hi2]
      · isplitl [Hf0]; · iapply (Entails.of_eq (show pend m c 0 = fl m c 0 from dif_pos (by decide)).symm); iexact Hf0
        isplitl [Hf1]; · iapply (Entails.of_eq (show pend m c 1 = fl m c 1 from dif_pos (by decide)).symm); iexact Hf1
        iexact Hi2
      isplitl [Hxb]; · iexact Hxb
      isplitl [Ha]; · iexact Ha
      isplitl [Hsb]; · iexact Hsb
      isplitl [Hown]; · iexact Hown
      isplitl [Hgo]; · iexact Hgo
      isplitl [Hrp]; · iexact Hrp
      isplitl [Hap]; · iexact Hap
      isplitr; · iapply (ctx_agReas m K c); iexact HC
      isplitl [Hrv] <;> iassumption
    isplitl [Hrt0]; · iexact Hrt0
    isplitl [Hrc0]; · iexact Hrc0
    isplitl [Hat0]; · iexact Hat0
    isplitl [Hac0]; · iexact Hac0
    iexact HO
  iintro ⟨Hb, HO⟩
  iapply (pthen c (layered m K c 1 1 rfl (D5 c) (above_D5 c (by decide)))) $$ [Hb Hrt1 Hrc1 Hat1 Hac1 HO]
  · isplitr; · iexact HC
    isplitl [Hb]; · iexact Hb
    isplitl [Hrt1]; · iexact Hrt1
    isplitl [Hrc1]; · iexact Hrc1
    isplitl [Hat1]; · iexact Hat1
    isplitl [Hac1]; · iexact Hac1
    iexact HO
  iintro ⟨Hb, HO⟩
  iapply (wp_wand (Fr := frame) (wpE := wpE (defs₀ (F := F)) 𝒱₀ (c : Thread nD τ) none)) $$ [Hb Hrt2 Hrc2 Ho HO]
  · iapply (last m K c)
    isplitr; · iexact HC
    isplitl [Hb]; · iexact Hb
    isplitl [Hrt2]; · iexact Hrt2
    isplitl [Hrc2]; · iexact Hrc2
    isplitl [Ho] <;> iassumption
  unfold bodyOut slots
  iintro %y ⟨Hw, ⟨Hi0, Hi1, Hi2⟩, Hxb, Ha, Hsb, Hrs, Hrp, Hap, Hrv, Hav, Ho, HO⟩
  isplitr [Hx Ho HO]
  · isplitl [Hbp]; · iexact Hbp
    isplitl [Hrp]; · iexact Hrp
    isplitl [Hap]; · iexact Hap
    isplitl [Hrv]; · iexact Hrv
    isplitl [Hav]; · iexact Hav
    isplitl [Hw]; · iexact Hw
    isplitl [Hi0]; · iapply (Entails.of_eq (show pend m c 24 = idle c 0 from dif_neg (by decide))); iexact Hi0
    isplitl [Hi1]; · iapply (Entails.of_eq (show pend m c 25 = idle c 1 from dif_neg (by decide))); iexact Hi1
    isplitl [Hi2]; · iexact Hi2
    isplitl [Hxb]; · iexact Hxb
    isplitl [Ha]; · iexact Ha
    isplitl [Hsb] <;> iassumption
  isplitl [Hx]; · iexact Hx
  isplitl [Ho] <;> iassumption

end Cert.KernelIdeal.Own
-- ==== Proof.Cells.lean ====
/- The protocol at launch: its cells, the duty tokens dealt to their payers, and the credit of what every device owes. -/
module

public import proofs.«01_k».proof.Proof.Body

@[expose] public section

noncomputable section

namespace Cert.KernelIdeal.Own

open Idealize.ShloMosaic Idealize.SL Idealize.SL.RA Idealize.SL.BI
open scoped Idealize.SL.BI
open Idealize.SL.BI.BIBase Idealize.SL.BI.Laws Idealize.SL.ProofMode Idealize.SL.Sem
open Idealize.ShloMosaic.TcCoe
open Idealize.ShloMosaic.Rounds Idealize.ShloMosaic.Transfers
open Idealize.ShloMosaic.ValueIdx
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (K : Dev nD × CI → ℕ) (c : Dev nD)

/-! ## The cells -/

theorem csem_inj : Function.Injective csem := by
  intro a b h
  have hk := congrArg kindOf h
  rcases a with _ | ⟨_ | _, s⟩ <;> rcases b with _ | ⟨_ | _, s'⟩ <;> simp only [csem, kind_bar, kind_rs, kind_ag] at hk <;>
    first | rfl | (cases hk <;> rfl)

theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

def ringCells : Finset (GSem nD τ sig) := Finset.univ.map ⟨kcell, kcell_inj⟩

theorem bigSep_cells (Φ : GSem nD τ sig → sProp 𝕄) :
    bigSep ringCells Φ = bigSep Finset.univ fun c : Dev nD => bigSep Finset.univ fun k : CI => Φ (kcell (c, k)) := by
  unfold ringCells; rw [BI.bigSep_map, BI.bigSep_univ_prod]; rfl

theorem univ_CI : (Finset.univ : Finset CI).erase none = (Finset.univ : Finset (Bool × Fin 8)).map Function.Embedding.some := by
  decide +kernel

/-- A device's cells: the barrier, then per sender the partial sums' and the reduced rows'. -/
theorem bigSep_CI (Φ : CI → sProp 𝕄) :
    bigSep Finset.univ Φ = iprop(Φ none ∗ (bigSep Finset.univ fun s : Fin 8 => Φ (some (false, s))) ∗ bigSep Finset.univ fun s : Fin 8 => Φ (some (true, s))) := by
  rw [BI.bigSep_univ_at Φ none, univ_CI, BI.bigSep_map, BI.bigSep_univ_prod,
    bigSep_univ_eq_bigSepL [false, true] (by decide) (by decide), bigSepL_cons_cons, bigSepL_singleton]
  rfl

/-! ## The tokens -/

/-- The six kinds of contribution a device makes to another: the barrier's, three of partial sums, two of reduced rows. -/
def tkCell (j : Fin 6) (d : Dev nD) : CI := match j with
  | 0 => none
  | 1 => some (false, d) | 2 => some (false, d) | 3 => some (false, d)
  | 4 => some (true, d) | 5 => some (true, d)
def tkRound : Fin 6 → ℕ := ![0, 0, 1, 2, 0, 1]
/-- The token of payer `x.1` at device `x.2.1`. -/
def tokOf (x : Dev nD × Dev nD × Fin 6) : GSem nD τ sig × ℕ × Dev nD := (kcell (x.2.1, tkCell x.2.2 x.1), tkRound x.2.2, x.1)

theorem tokOf_inj : Function.Injective tokOf := by
  rintro ⟨d, c, j⟩ ⟨d', c', j'⟩ h
  have h1 : d = d' := congrArg (fun x : GSem nD τ sig × ℕ × Dev nD => x.2.2) h
  subst h1
  have h2 := kcell_inj (congrArg (fun x : GSem nD τ sig × ℕ × Dev nD => x.1) h)
  have h3 : c = c' := congrArg Prod.fst h2
  have h4 : tkCell j d = tkCell j' d := congrArg Prod.snd h2
  have h5 : tkRound j = tkRound j' := congrArg (fun x : GSem nD τ sig × ℕ × Dev nD => x.2.1) h
  have h6 : j = j' := (show ∀ (d : Dev nD) (j j' : Fin 6), tkCell j d = tkCell j' d → tkRound j = tkRound j' → j = j' by decide +kernel) d j j' h4 h5
  rw [h3, h6]

def ringToks : Finset (GSem nD τ sig × ℕ × Dev nD) := Finset.univ.map ⟨tokOf, tokOf_inj⟩

/-- The tokens a device pays with. -/
def mine (d : Dev nD) : sProp 𝕄 :=
  bigSep Finset.univ fun c : Dev nD => bigSep Finset.univ fun j : Fin 6 => dutyTok ER (kcell (c, tkCell j d)) (tkRound j) d

theorem bigSep_toks : (bigSep ringToks fun x => (dutyTok ER x.1 x.2.1 x.2.2 : sProp 𝕄)) = bigSep Finset.univ fun d : Dev nD => mine d := by
  unfold ringToks
  rw [BI.bigSep_map, BI.bigSep_univ_prod]
  refine bigSep_congr fun d _ => ?_
  unfold mine
  rw [BI.bigSep_univ_prod]
  rfl

/-- Those of the other devices' cells, kind by kind. -/
theorem mine_split : (mine c : sProp 𝕄) ⊢ iprop((bigSep Finset.univ fun r : Fin 7 => dutyTok ER (barCell (peer c r)) 0 c)
    ∗ rsToks c 0 ∗ rsToks c 1 ∗ rsToks c 2 ∗ agToks c 0 ∗ agToks c 1) := by
  unfold mine rsToks agToks
  rw [bigSep_devs (F := F) c]
  iintro ⟨-, H⟩
  ihave H := (Entails.of_eq (bigSep_congr fun r _ => bigSep_univ_eq_bigSepL [0, 1, 2, 3, 4, 5] (by decide) (by decide)
    (fun j : Fin 6 => (dutyTok ER (kcell (peer c r, tkCell j c)) (tkRound j) c : sProp 𝕄)))) $$ H
  simp only [bigSepL_cons_cons, bigSepL_singleton]
  ihave H := (unzip2 Finset.univ _ _) $$ H
  icases H with ⟨H0, H⟩
  ihave H := (unzip2 Finset.univ _ _) $$ H
  icases H with ⟨H1, H⟩
  ihave H := (unzip2 Finset.univ _ _) $$ H
  icases H with ⟨H2, H⟩
  ihave H := (unzip2 Finset.univ _ _) $$ H
  icases H with ⟨H3, H⟩
  ihave H := (unzip2 Finset.univ _ _) $$ H
  icases H with ⟨H4, H5⟩
  isplitl [H0]; · iexact H0
  isplitl [H1]; · iexact H1
  isplitl [H2]; · iexact H2
  isplitl [H3]; · iexact H3
  isplitl [H4]; · iexact H4
  iexact H5

/-! ## The credit -/

/-- What every device owes its peers, summed, is what every device expects of its peers. -/
theorem swap_peers {M : Type} [AddCommMonoid M] (f : Dev nD → Dev nD → M) :
    (∑ d : Dev nD, ∑ r : Fin 7, f (peer d r) d) = ∑ d : Dev nD, ∑ r : Fin 7, f d (peer d r) := by
  have h1 (d : Dev nD) : (∑ r : Fin 7, f (peer d r) d) = ∑ e ∈ Finset.univ.erase d, f e d := by
    rw [← peers_eq, Finset.sum_map]; rfl
  have h2 (d : Dev nD) : (∑ r : Fin 7, f d (peer d r)) = ∑ e ∈ Finset.univ.erase d, f d e := by
    rw [← peers_eq, Finset.sum_map]; rfl
  rw [Finset.sum_congr rfl fun d _ => h1 d, Finset.sum_congr rfl fun d _ => h2 d]
  exact Finset.sum_comm' fun x y => by simp [ne_comm]

/-- Devices owing one another a tally each on a semaphore named by the pair: a device's credit is its peers' tallies. -/
theorem credit_peers (sm : Dev nD → Dev nD → SemLoc sig) (k n : ℕ) :
    (Pipeline.launchCred (fun d => sumT (fun r => tallyAt ((peer d r : Thread nD τ), sm (peer d r) d) k n) dists) c : sProp 𝕄)
      = bigSep Finset.univ fun r : Fin 7 => cred (tallyAt ((c : Thread nD τ), sm c (peer c r)) k n) := by
  rw [Pipeline.launchCred_of_sum (fun d => sumT (fun r => tallyAt ((peer d r : Thread nD τ), sm (peer d r) d) k n) dists)
    (fun d => ∑ r : Fin 7, tallyAt ((d : Thread nD τ), sm d (peer d r)) k n) ?_ ?_ c, Pipeline.cred_finsetSum]
  · rw [Finset.sum_congr rfl fun d _ => sumT_eq _]
    exact swap_peers fun a b => (tallyAt ((a : Thread nD τ), sm a b) k n : CellTallies nD τ sig ℕ)
  · intro d g hg
    by_contra hne
    refine hg ?_
    rw [Finset.sum_apply]
    refine Finset.sum_eq_zero fun r _ => ?_
    exact tallyAt_ne_cell (fun h => hne (by rw [h])) _ _

theorem sevenBar : (bigSep Finset.univ fun r : Fin 7 => (cred (tallyAt (barCell c) 0 1) : sProp 𝕄)) = cred (tallyAt (barCell c) 0 7) := by
  rw [← Pipeline.cred_finsetSum]
  refine congrArg _ ?_
  rw [Fin.sum_univ_seven]
  simp only [tallyAt_add]

/-- The credit a device starts with. -/
theorem credits : (Pipeline.launchCred D0 c : sProp 𝕄)
    ⊢ iprop(cred (tallyAt (barCell c) 0 7) ∗ rsCrs c 0 ∗ rsCrs c 1 ∗ rsCrs c 2 ∗ agCrs c 0 ∗ agCrs c 1) := by
  rw [show (D0 : Dev nD → CellTallies nD τ sig ℕ) = fun d => D1 d + sumT (tb d) dists from rfl, Pipeline.launchCred_add,
    show (D1 : Dev nD → CellTallies nD τ sig ℕ) = fun d => D2 d + sumT (tr 0 d) dists from rfl, Pipeline.launchCred_add,
    show (D2 : Dev nD → CellTallies nD τ sig ℕ) = fun d => D3 d + sumT (ta 0 d) dists from rfl, Pipeline.launchCred_add,
    show (D3 : Dev nD → CellTallies nD τ sig ℕ) = fun d => D4 d + sumT (tr 1 d) dists from rfl, Pipeline.launchCred_add,
    show (D4 : Dev nD → CellTallies nD τ sig ℕ) = fun d => D5 d + sumT (ta 1 d) dists from rfl, Pipeline.launchCred_add,
    show (D5 : Dev nD → CellTallies nD τ sig ℕ) = fun d => 0 + sumT (tr 2 d) dists from rfl, Pipeline.launchCred_add]
  iintro ⟨⟨⟨⟨⟨⟨-, H2⟩, Ha1⟩, H1⟩, Ha0⟩, H0⟩, Hb⟩
  unfold rsCrs agCrs
  isplitl [Hb]
  · iapply (Entails.of_eq (sevenBar (F := F) c))
    iapply (Entails.of_eq (credit_peers (F := F) c (fun _ _ => .reg barS) 0 1)); iexact Hb
  isplitl [H0]; · iapply (Entails.of_eq (credit_peers (F := F) c (fun _ s => .dma (rsSem s)) 0 NN)); iexact H0
  isplitl [H1]; · iapply (Entails.of_eq (credit_peers (F := F) c (fun _ s => .dma (rsSem s)) 1 NN)); iexact H1
  isplitl [H2]; · iapply (Entails.of_eq (credit_peers (F := F) c (fun _ s => .dma (rsSem s)) 2 NN)); iexact H2
  isplitl [Ha0]; · iapply (Entails.of_eq (credit_peers (F := F) c (fun _ s => .dma (agSem s)) 0 NN)); iexact Ha0
  iapply (Entails.of_eq (credit_peers (F := F) c (fun _ s => .dma (agSem s)) 1 NN)); iexact Ha1

end Cert.KernelIdeal.Own
-- ==== Proof.Bufs.lean ====
/- What a device holds when the kernel starts and what it gives back when it ends: its semaphores and buffers, in the parts
   the body works on. -/
module

public import proofs.«01_k».proof.Proof.Cells
public import proofs.«01_k».proof.Proof.Gen.KernelIdeal.Launch

@[expose] public section

noncomputable section

namespace Cert.KernelIdeal.Own

open Idealize.ShloMosaic Idealize.SL Idealize.SL.RA Idealize.SL.BI
open scoped Idealize.SL.BI
open Idealize.SL.BI.BIBase Idealize.SL.BI.Laws Idealize.SL.ProofMode Idealize.SL.Sem
open Idealize.ShloMosaic.TcCoe
open Idealize.ShloMosaic.Rounds Idealize.ShloMosaic.Transfers
open Idealize.ShloMosaic.ValueIdx
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (K : Dev nD × CI → ℕ) (c : Dev nD)

/-! ## Semaphores -/

/-- The kernel's own semaphores: the two weights' fetches per slot; per peer the sends' and the receives' of the two
    exchanges. -/
abbrev OI : Type := (Fin 3 ⊕ Fin 3) ⊕ ((Fin 8 ⊕ Fin 8) ⊕ (Fin 8 ⊕ Fin 8))
def osem : OI → SemLoc sig
  | .inl (.inl s) => .dma (semA s)
  | .inl (.inr s) => .dma (semB s)
  | .inr (.inl (.inl s)) => .dma (semOf cc0_scratch8 s)
  | .inr (.inl (.inr s)) => .dma (semOf cc0_scratch10 s)
  | .inr (.inr (.inl s)) => .dma (rsSem s)
  | .inr (.inr (.inr s)) => .dma (agSem s)

/-- Their numbers. -/
def osemNo : OI → SemLoc sig
  | .inl (.inl s) => .dma ⟨2 + s.val, by show 2 + s.val < 40; omega⟩
  | .inl (.inr s) => .dma ⟨5 + s.val, by show 5 + s.val < 40; omega⟩
  | .inr (.inl (.inl s)) => .dma ⟨8 + s.val, by show 8 + s.val < 40; omega⟩
  | .inr (.inl (.inr s)) => .dma ⟨24 + s.val, by show 24 + s.val < 40; omega⟩
  | .inr (.inr (.inl s)) => .dma ⟨16 + s.val, by show 16 + s.val < 40; omega⟩
  | .inr (.inr (.inr s)) => .dma ⟨32 + s.val, by show 32 + s.val < 40; omega⟩

theorem osem_eq : osem = osemNo := by
  funext k
  rcases k with (s | s) | ((s | s) | (s | s))
  · exact congrArg SemLoc.dma (semA_eq s)
  · exact congrArg SemLoc.dma (semB_eq s)
  · exact congrArg SemLoc.dma (sem8_eq s)
  · exact congrArg SemLoc.dma (sem10_eq s)
  · exact congrArg SemLoc.dma (sem9_eq s)
  · exact congrArg SemLoc.dma (sem11_eq s)

theorem ownSemFacts : Pipeline.OwnSemFacts cfg0.spec osem := by
  rw [osem_eq]
  decide +kernel

/-- The fetches' semaphores at zero, -/
def fetchSems : sProp 𝕄 :=
  iprop((bigSep Finset.univ fun s : Fin 3 => semVal ((c : Thread nD τ), .dma (semA s)) 0)
    ∗ bigSep Finset.univ fun s : Fin 3 => semVal ((c : Thread nD τ), .dma (semB s)) 0)
/-- the sends'. -/
def sendSems : sProp 𝕄 :=
  iprop((bigSep Finset.univ fun s : Fin 8 => semVal (sendRS c s) 0) ∗ bigSep Finset.univ fun s : Fin 8 => semVal (sendAG c s) 0)

theorem ownSems_eq : (Pipeline.ownSems0 (Ix := ℕ) (Name := ℕ) (U := UU) (Lvl := ℕ) (Val := Elt F) (τ := τ) osem c : sProp 𝕄)
    = iprop(fetchSems c ∗ sendSems c ∗ (bigSep Finset.univ fun s : Fin 8 => semVal (rsCell c s) 0) ∗ bigSep Finset.univ fun s : Fin 8 => semVal (agCell c s) 0) := by
  unfold Pipeline.ownSems0
  rw [BI.bigSep_univ_sum, BI.bigSep_univ_sum, BI.bigSep_univ_sum, BI.bigSep_univ_sum, BI.bigSep_univ_sum]
  rfl

theorem unscopedSems_eq : (unscopedSems0 c : sProp 𝕄) = semVal (barCell c) 0 := by
  unfold unscopedSems0; rw [bigSep_eq_bigSepL_of_eq [SemLoc.reg barS] (by decide) (by decide)]; rfl

/-- All of them: the fetches', the sends', the protocol's. -/
theorem sems_split : iprop(Pipeline.ownSems0 (Ix := ℕ) (Name := ℕ) (U := UU) (Lvl := ℕ) (Val := Elt F) (τ := τ) osem c ∗ unscopedSems0 c)
    ⊢ (iprop(fetchSems c ∗ sendSems c ∗ bigSep Finset.univ fun k : CI => semVal (kcell (c, k)) 0) : sProp 𝕄) := by
  rw [ownSems_eq, unscopedSems_eq, bigSep_CI]
  iintro ⟨⟨Hf, Hs, Hr, Ha⟩, Hb⟩
  isplitl [Hf]; · iexact Hf
  isplitl [Hs]; · iexact Hs
  isplitl [Hb]; · iexact Hb
  isplitl [Hr]; · iexact Hr
  iexact Ha

theorem sems_join : (iprop(fetchSems c ∗ sendSems c ∗ bigSep Finset.univ fun k : CI => semVal (kcell (c, k)) 0) : sProp 𝕄)
    ⊢ iprop(unscopedSems0 c ∗ Pipeline.ownSems0 (Ix := ℕ) (Name := ℕ) (U := UU) (Lvl := ℕ) (Val := Elt F) (τ := τ) osem c) := by
  rw [ownSems_eq, unscopedSems_eq, bigSep_CI]
  iintro ⟨Hf, Hs, Hb, Hr, Ha⟩
  isplitl [Hb]; · iexact Hb
  isplitl [Hf]; · iexact Hf
  isplitl [Hs]; · iexact Hs
  isplitl [Hr]; · iexact Hr
  iexact Ha

/-! ## Scratch buffers -/

theorem whole_some (b : Ref sig .tc) :
    (iprop(∃ f : Buf (Elt F) ((c : Thread nD τ).loc b), ((c : Thread nD τ).loc b) ↦{fullShare} f) : sProp 𝕄)
      = some1 c (Memref.whole b) := by
  unfold some1
  simp only [owns_whole]

section Parts
variable {sp : Space} {sh : Shape} {e : EltTy}

theorem some_squeeze (M : Memref sig .tc sp sh e) {s' : Shape} (h : sh.Squeezes s') :
    (some1 c (M.squeeze s' h) : sProp 𝕄) = some1 c M := by
  have h₁ : (some1 c (M.squeeze s' h) : sProp 𝕄) ⊢ some1 c M := by
    unfold some1
    iintro ⟨%X, H⟩
    iexists (fun i => X ((Shape.reshapeEquiv h.numel_eq).symm i))
    iapply (Entails.of_eq (owns_squeeze (F := F) c fullShare M h fun i => X ((Shape.reshapeEquiv h.numel_eq).symm i)))
    simp only [Equiv.symm_apply_apply]
    iexact H
  have h₂ : (some1 c M : sProp 𝕄) ⊢ some1 c (M.squeeze s' h) := by
    unfold some1
    iintro ⟨%X, H⟩
    iexists _
    iapply (Entails.of_eq (owns_squeeze (F := F) c fullShare M h X).symm)
    iexact H
  exact BI.Entails.antisymm h₁ h₂

variable {T : Type} [Fintype T] [DecidableEq T] (r : T → Rect sh) (hr : ∀ t a, (r t).stride a = 1)
  (hd : ∀ t t', t ≠ t' → Disjoint (r t).set (r t').set) (hcov : (Finset.univ : Finset T).biUnion (fun t => (r t).set) = Finset.univ)

include hd in
/-- Contents given part by part are one buffer's. -/
theorem glue {α : Type} [Nonempty α] (Y : (t : T) → (r t).shape.Idx → α) :
    ∃ X : sh.Idx → α, ∀ t, (fun j => X ((r t).emb j)) = Y t := by
  classical
  refine ⟨fun i => if h : ∃ p : (t : T) × (r t).shape.Idx, (r p.1).emb p.2 = i then Y h.choose.1 h.choose.2 else Classical.arbitrary α, fun t => funext fun j => ?_⟩
  have h : ∃ p : (t : T) × (r t).shape.Idx, (r p.1).emb p.2 = (r t).emb j := ⟨⟨t, j⟩, rfl⟩
  show (if h : ∃ p : (t : T) × (r t).shape.Idx, (r p.1).emb p.2 = (r t).emb j then Y h.choose.1 h.choose.2 else Classical.arbitrary α) = Y t j
  rw [dif_pos h]
  have hc := h.choose_spec
  generalize h.choose = p at hc
  obtain ⟨t', j'⟩ := p
  have ht : t' = t := by
    by_contra hne
    have hmem (t : T) (j : (r t).shape.Idx) : (r t).emb j ∈ (r t).set := (r t).idx_mem j
    exact Finset.disjoint_left.mp (hd t' t hne) (hmem t' j') (by rw [show (r t').emb j' = (r t).emb j from hc]; exact hmem t j)
  subst ht
  rw [show j' = j from (r t').emb.injective hc]

/-- A buffer at some contents is its parts at some contents. -/
theorem some_rects (M : Memref sig .tc sp sh e) (hd : ∀ t t', t ≠ t' → Disjoint (r t).set (r t').set)
    (hcov : (Finset.univ : Finset T).biUnion (fun t => (r t).set) = Finset.univ) :
    (some1 c M : sProp 𝕄) = bigSep Finset.univ fun t => some1 c (M.slice (r t) (hr t)) := by
  have h₁ : (some1 c M : sProp 𝕄) ⊢ bigSep Finset.univ fun t => some1 c (M.slice (r t) (hr t)) := by
    unfold some1
    iintro ⟨%X, H⟩
    ihave H := (owns_rects (c : Thread nD τ) M fullShare r hr hd hcov X) $$ H
    iapply (show (bigSep Finset.univ fun t => (owns (c : Thread nD τ) (M.slice (r t) (hr t)) fullShare (fun j => X ((r t).emb j)) : sProp 𝕄))
      ⊢ bigSep Finset.univ fun t => iprop(∃ X, owns (c : Thread nD τ) (M.slice (r t) (hr t)) fullShare X) from
        BI.bigSep_mono fun t _ => some1_intro c (M.slice (r t) (hr t)) _) $$ H
  have h₂ : (bigSep Finset.univ fun t => some1 c (M.slice (r t) (hr t))) ⊢ (some1 c M : sProp 𝕄) := by
    unfold some1
    refine (BI.bigSep_exists_pi _ _).trans ?_
    iintro ⟨%Y, H⟩
    obtain ⟨X, hX⟩ := glue r hd Y
    iexists X
    iapply (owns_of_rects (c : Thread nD τ) M fullShare r hr hd hcov X)
    iapply (Entails.of_eq (bigSep_congr fun t _ => by rw [hX t]))
    iexact H
  exact BI.Entails.antisymm h₁ h₂

end Parts

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem slotsA_eq : (some1 c waM : sProp 𝕄) = bigSep Finset.univ fun s : Fin 3 => some1 c (slotA s) := by
  rw [some_rects c RA (fun _ _ => rfl) waM slotsA_disjoint slotsA_cover]
  exact bigSep_congr fun s _ => (some_squeeze c _ squeezes_S1x2048x512_S2048x512).symm
theorem slotsB_eq : (some1 c wbM : sProp 𝕄) = bigSep Finset.univ fun s : Fin 3 => some1 c (slotB s) := by
  rw [some_rects c RB (fun _ _ => rfl) wbM slotsB_disjoint slotsB_cover]
  exact bigSep_congr fun s _ => (some_squeeze c _ squeezes_S1x512x2048_S512x2048).symm

/-- The body's scratch: the fetches' slots and semaphores, the other buffers. -/
def scratch : sProp 𝕄 :=
  iprop(idle c 0 ∗ idle c 1 ∗ idle c 2 ∗ some1 c xbM ∗ some1 c accM ∗ some1 c sbM ∗ some1 c rsM)

theorem scoped_eq : (Pipeline.scopedRest (Ix := ℕ) (Name := ℕ) (U := UU) (Lvl := ℕ) (Val := Elt F) spec0 c : sProp 𝕄)
    = iprop((bigSep Finset.univ fun s : Fin 3 => some1 c (slotA s)) ∗ (bigSep Finset.univ fun s : Fin 3 => some1 c (slotB s))
        ∗ some1 c xbM ∗ some1 c accM ∗ some1 c sbM ∗ some1 c rsM) := by
  rw [scopedRest0_eq, whole_some, whole_some, whole_some, whole_some, whole_some, whole_some, ← slotsA_eq, ← slotsB_eq]

theorem scratch_intro : iprop(fetchSems c ∗ Pipeline.scopedRest (Ix := ℕ) (Name := ℕ) (U := UU) (Lvl := ℕ) (Val := Elt F) spec0 c) ⊢ (scratch c : sProp 𝕄) := by
  rw [scoped_eq]
  unfold fetchSems scratch idle
  simp only [bigSep_fin3]
  iintro ⟨⟨⟨Ha0, Ha1, Ha2⟩, ⟨Hb0, Hb1, Hb2⟩⟩, ⟨Sa0, Sa1, Sa2⟩, ⟨Sb0, Sb1, Sb2⟩, H4, H5, H6, H7⟩
  isplitl [Ha0 Hb0 Sa0 Sb0]
  · isplitl [Sa0]; · iexact Sa0
    isplitl [Sb0]; · iexact Sb0
    isplitl [Ha0] <;> iassumption
  isplitl [Ha1 Hb1 Sa1 Sb1]
  · isplitl [Sa1]; · iexact Sa1
    isplitl [Sb1]; · iexact Sb1
    isplitl [Ha1] <;> iassumption
  isplitl [Ha2 Hb2 Sa2 Sb2]
  · isplitl [Sa2]; · iexact Sa2
    isplitl [Sb2]; · iexact Sb2
    isplitl [Ha2] <;> iassumption
  isplitl [H4]; · iexact H4
  isplitl [H5]; · iexact H5
  isplitl [H6] <;> iassumption

theorem scratch_elim : (scratch c : sProp 𝕄) ⊢ iprop(fetchSems c ∗ Pipeline.scopedRest (Ix := ℕ) (Name := ℕ) (U := UU) (Lvl := ℕ) (Val := Elt F) spec0 c) := by
  rw [scoped_eq]
  unfold fetchSems scratch idle
  simp only [bigSep_fin3]
  iintro ⟨⟨Sa0, Sb0, Ha0, Hb0⟩, ⟨Sa1, Sb1, Ha1, Hb1⟩, ⟨Sa2, Sb2, Ha2, Hb2⟩, H4, H5, H6, H7⟩
  isplitl [Ha0 Ha1 Ha2 Hb0 Hb1 Hb2]
  · isplitl [Ha0 Ha1 Ha2]
    · isplitl [Ha0]; · iexact Ha0
      isplitl [Ha1] <;> iassumption
    isplitl [Hb0]; · iexact Hb0
    isplitl [Hb1] <;> iassumption
  isplitl [Sa0 Sa1 Sa2]
  · isplitl [Sa0]; · iexact Sa0
    isplitl [Sa1] <;> iassumption
  isplitl [Sb0 Sb1 Sb2]
  · isplitl [Sb0]; · iexact Sb0
    isplitl [Sb1] <;> iassumption
  isplitl [H4]; · iexact H4
  isplitl [H5]; · iexact H5
  isplitl [H6] <;> iassumption

/-! ## The weights -/

theorem lift_whole (b : Ref sig .tc) (X : b.ty.Contents (Elt F)) :
    (((c : Thread nD τ).loc b) ↦{fullShare} X : sProp 𝕄) ⊢ iprop(∃ q, owns (c : Thread nD τ) (Memref.whole b) q X) := by
  iintro H
  iexists fullShare
  rw [owns_whole]
  iexact H

theorem winV_0 : winV m c 0 = m ((c : Thread nD τ).loc main_arg1) := rfl
theorem winV_1 : winV m c 1 = m ((c : Thread nD τ).loc main_arg2) := rfl
theorem winV_2 : winV m c 2 = m ((c : Thread nD τ).loc main_arg3) := rfl
theorem woutV_0 : woutV m c 0 = m ((c : Thread nD τ).loc main_arg4) := rfl
theorem woutV_1 : woutV m c 1 = m ((c : Thread nD τ).loc main_arg5) := rfl
theorem woutV_2 : woutV m c 2 = m ((c : Thread nD τ).loc main_arg6) := rfl

theorem wts_intro : (Pipeline.unscopedRest (Ix := ℕ) (Name := ℕ) (U := UU) (Lvl := ℕ) spec0 c (fun b => m ((c : Thread nD τ).loc b)) : sProp 𝕄) ⊢ wts m c := by
  rw [unscopedRest0_eq]
  unfold wts
  rw [bigSep_fin3, bigSep_fin3]
  iintro ⟨H1, H2, H3, H4, H5, H6⟩
  isplitl [H1 H2 H3]
  · isplitl [H1]; · iapply (lift_whole (F := F) c main_arg1 _) $$ H1
    isplitl [H2]; · iapply (lift_whole (F := F) c main_arg2 _) $$ H2
    iapply (lift_whole (F := F) c main_arg3 _) $$ H3
  isplitl [H4]; · iapply (lift_whole (F := F) c main_arg4 _) $$ H4
  isplitl [H5]; · iapply (lift_whole (F := F) c main_arg5 _) $$ H5
  iapply (lift_whole (F := F) c main_arg6 _) $$ H6

theorem read_whole (b : Ref sig .tc) (X : b.ty.Contents (Elt F)) (s' : Phys nD τ sig (Elt F)) :
    (iprop((∃ q, owns (c : Thread nD τ) (Memref.whole b) q X) ∗ SI s') : sProp 𝕄) ⊢ iprop(⌜s'.mem.mem ((c : Thread nD τ).loc b) = X⌝ ∗ SI s') := by
  iintro ⟨⟨%q, H⟩, HS⟩
  ihave H := (Entails.of_eq (owns_whole (c : Thread nD τ) b q X)) $$ H
  ihave H := (pointsTo_read_all' (Finset.univ : Finset Unit) (fun _ => (c : Thread nD τ).loc b) (fun _ => X) s' (fun _ => q)) $$ [H HS]
  · isplitl [H]
    · rw [show (Finset.univ : Finset Unit) = {()} from rfl, bigSep_singleton]; iexact H
    iexact HS
  icases H with ⟨%h, HS⟩
  isplitr
  · ipureintro; exact h () (Finset.mem_univ _)
  iexact HS

/-- The weights held at the end are in memory as they were. -/
theorem wts_read (s' : Phys nD τ sig (Elt F)) : iprop(wts m c ∗ SI s')
    ⊢ iprop(⌜s'.mem.mem ((c : Thread nD τ).loc main_arg1) = m ((c : Thread nD τ).loc main_arg1)
        ∧ s'.mem.mem ((c : Thread nD τ).loc main_arg2) = m ((c : Thread nD τ).loc main_arg2)
        ∧ s'.mem.mem ((c : Thread nD τ).loc main_arg3) = m ((c : Thread nD τ).loc main_arg3)
        ∧ s'.mem.mem ((c : Thread nD τ).loc main_arg4) = m ((c : Thread nD τ).loc main_arg4)
        ∧ s'.mem.mem ((c : Thread nD τ).loc main_arg5) = m ((c : Thread nD τ).loc main_arg5)
        ∧ s'.mem.mem ((c : Thread nD τ).loc main_arg6) = m ((c : Thread nD τ).loc main_arg6)⌝ ∗ SI s') := by
  unfold wts
  rw [bigSep_fin3, bigSep_fin3]
  iintro ⟨⟨⟨H1, H2, H3⟩, H4, H5, H6⟩, HS⟩
  ihave HS := (read_whole (F := F) c main_arg1 (winV m c 0) s') $$ [H1 HS]
  · isplitl [H1]; · iexact H1
    iexact HS
  icases HS with ⟨%e1, HS⟩
  ihave HS := (read_whole (F := F) c main_arg2 (winV m c 1) s') $$ [H2 HS]
  · isplitl [H2]; · iexact H2
    iexact HS
  icases HS with ⟨%e2, HS⟩
  ihave HS := (read_whole (F := F) c main_arg3 (winV m c 2) s') $$ [H3 HS]
  · isplitl [H3]; · iexact H3
    iexact HS
  icases HS with ⟨%e3, HS⟩
  ihave HS := (read_whole (F := F) c main_arg4 (woutV m c 0) s') $$ [H4 HS]
  · isplitl [H4]; · iexact H4
    iexact HS
  icases HS with ⟨%e4, HS⟩
  ihave HS := (read_whole (F := F) c main_arg5 (woutV m c 1) s') $$ [H5 HS]
  · isplitl [H5]; · iexact H5
    iexact HS
  icases HS with ⟨%e5, HS⟩
  ihave HS := (read_whole (F := F) c main_arg6 (woutV m c 2) s') $$ [H6 HS]
  · isplitl [H6]; · iexact H6
    iexact HS
  icases HS with ⟨%e6, HS⟩
  isplitr
  · ipureintro; exact ⟨e1, e2, e3, e4, e5, e6⟩
  iexact HS

end Cert.KernelIdeal.Own
-- ==== Proof.Launch.lean ====
/- The launch: what each device is dealt, the body's obligation, and the run of the whole program. -/
module

public import proofs.«01_k».proof.Proof.Body
public import proofs.«01_k».proof.Proof.Bufs
public import Idealize.ShloMosaic.Lib.Pipeline.CollectiveSegs

@[expose] public section

noncomputable section

namespace Cert.KernelIdeal.Own

open Idealize.ShloMosaic Idealize.SL Idealize.SL.RA Idealize.SL.BI
open scoped Idealize.SL.BI
open Idealize.SL.BI.BIBase Idealize.SL.BI.Laws Idealize.SL.ProofMode Idealize.SL.Sem
open Idealize.ShloMosaic.TcCoe
open Idealize.ShloMosaic.Rounds Idealize.ShloMosaic.Transfers
open Idealize.ShloMosaic.ValueIdx
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (K : Dev nD × CI → ℕ) (c : Dev nD)

variable (ρ : Dev nD → PrngReg)

/-! ## What a device holds -/

/-- What the body does not touch: the device's own cells of the two exchanges, its sends to itself. -/
def spare : sProp 𝕄 :=
  iprop(atPos ER (rsCell c c) 0 ∅ 0 ∗ atPos ER (agCell c c) 0 ∅ 0 ∗ semVal (sendRS c c) 0 ∗ semVal (sendAG c c) 0)

/-- What the body takes besides its scratch. -/
def gifts : sProp 𝕄 :=
  iprop((bigSep Finset.univ fun r : Fin 7 => dutyTok ER (barCell (peer c r)) 0 c) ∗ cred (tallyAt (barCell c) 0 7) ∗ atPos ER (barCell c) 0 ∅ 0
    ∗ rsToks c 0 ∗ rsToks c 1 ∗ rsToks c 2 ∗ agToks c 0 ∗ agToks c 1 ∗ rsCrs c 0 ∗ rsCrs c 1 ∗ rsCrs c 2 ∗ agCrs c 0 ∗ agCrs c 1
    ∗ rsPoss c 0 ∗ agPoss c 0 ∗ rsSems c ∗ agSems c ∗ wts m c)

theorem bodyIn_intro : iprop(gifts m c ∗ scratch c) ⊢ (bodyIn m c : sProp 𝕄) := by
  unfold gifts scratch bodyIn
  iintro ⟨⟨H1, H2, H3, H4, H5, H6, H7, H8, H9, H10, H11, H12, H13, H14, H15, H16, H17, H18⟩, Hs⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact Hs

/-- Before the scratch is there. -/
def start : sProp 𝕄 := iprop((∃ K, ctx m K) ∗ gifts m c ∗ spare c ∗ fetchSems c)

def Φ₀ : sProp 𝕄 := iprop((∃ K, ctx m K) ∗ gifts m c ∗ scratch c ∗ spare c)
def Φ₁ : sProp 𝕄 := iprop((sendSems c ∗ bigSep Finset.univ fun k : CI => semVal (kcell (c, k)) 0) ∗ wts m c ∗ scratch c)

def dats (_ : Fin 1) (c : Dev nD) : Pipeline.Dat τ (Elt F) ℕ ℕ UU ℕ cfg0 c where
  A w := m ((cfg0.win w).arr.view.loc (c : Thread nD τ))
  after w _ := match w with
    | ⟨0, _⟩ => xV m c
    | ⟨1, _⟩ => outV m c
  Φ t := match t with
    | ⟨0, _⟩ => Φ₀ m c
    | ⟨_ + 1, _⟩ => Φ₁ m c
  q _ := fullShare
  owed t := match t with
    | ⟨0, _⟩ => D0 c
    | ⟨_ + 1, _⟩ => 0

/-! ## The cells close -/

theorem close_one (ck : Dev nD × CI) (R : ℕ) (hR : ∀ r, R ≤ r → (Rd m).duties (kcell ck) r = ∅) :
    iprop(ctx m K ∗ atPos ER (kcell ck) R ∅ 0) ⊢ (|={Set.univ}=> semVal (kcell ck) 0 : sProp 𝕄) := by
  iintro ⟨#HC, Hat⟩
  iapply (Rounds.cell_close ER (Rd m) (Set.mem_univ (K ck)) (fun h => h) (R := R) hR)
  isplitr; · iapply (ctx_inv m K ck); iexact HC
  iexact Hat

theorem close_all : iprop(ctx m K ∗ atPos ER (barCell c) 1 ∅ 0 ∗ rsPoss c 3 ∗ agPoss c 2 ∗ rsSems c ∗ agSems c ∗ spare c)
    ⊢ (|={Set.univ}=> iprop(sendSems c ∗ bigSep Finset.univ fun k : CI => semVal (kcell (c, k)) 0) : sProp 𝕄) := by
  unfold spare rsPoss agPoss rsSems agSems sendSems
  rw [bigSep_CI, bigSep_devs c, bigSep_devs c, bigSep_devs c, bigSep_devs c]
  iintro ⟨#HC, Hb, Hr, Ha, Hrs, Has, Hro, Hao, Hrw, Haw⟩
  imod (close_one m K (c, none) 1 fun r h => duties_bar_later m c r h) $$ [Hb] with Hb
  · isplitr; · iexact HC
    iexact Hb
  imod (close_one m K (c, some (false, c)) 0 fun r _ => duties_rs_own m c r) $$ [Hro] with Hro
  · isplitr; · iexact HC
    iexact Hro
  imod (close_one m K (c, some (true, c)) 0 fun r _ => duties_ag_own m c r) $$ [Hao] with Hao
  · isplitr; · iexact HC
    iexact Hao
  imod ((with_pers (fun r : Fin 7 => atPos ER (rsCell c (peer c r)) 3 ∅ 0) (fun r => iprop(|={Set.univ}=> semVal (rsCell c (peer c r)) 0)) (ctx m K)
    fun r => close_one m K (c, some (false, peer c r)) 3 fun i h => duties_rs_later m c (peer c r) i h).trans (BI.bigSep_fupd _ _)) $$ [Hr] with Hr
  · isplitr; · iexact HC
    iexact Hr
  imod ((with_pers (fun r : Fin 7 => atPos ER (agCell c (peer c r)) 2 ∅ 0) (fun r => iprop(|={Set.univ}=> semVal (agCell c (peer c r)) 0)) (ctx m K)
    fun r => close_one m K (c, some (true, peer c r)) 2 fun i h => duties_ag_later m c (peer c r) i h).trans (BI.bigSep_fupd _ _)) $$ [Ha] with Ha
  · isplitr; · iexact HC
    iexact Ha
  imodintro
  isplitl [Hrs Has Hrw Haw]
  · isplitl [Hrs Hrw]
    · isplitl [Hrw]; · iexact Hrw
      iexact Hrs
    isplitl [Haw]; · iexact Haw
    iexact Has
  isplitl [Hb]; · iexact Hb
  isplitl [Hr Hro]
  · isplitl [Hro]; · iexact Hro
    iexact Hr
  isplitl [Hao]; · iexact Hao
  iexact Ha

/-! ## The body -/

abbrev stg (b : Ref sig .tc) (X : b.ty.Contents (Elt F)) : sProp 𝕄 := owns (c : Thread nD τ) (Memref.whole b) fullShare X

def bodyPre : sProp 𝕄 :=
  iprop(Φ₀ m c ∗ (dats m 0 c).owesAt 0 t0_0.castSucc
    ∗ (∃ d, stg c cc0_stg0_0 ((dats m 0 c).before (0 : Fin 2) t0_0 d))
    ∗ (∃ d, stg c cc0_stg1_0 ((dats m 0 c).before (1 : Fin 2) t0_0 d)))

def bodyPost : sProp 𝕄 :=
  iprop(Φ₁ m c ∗ (dats m 0 c).owesAt 0 t0_0.succ ∗ stg c cc0_stg0_0 (xV m c) ∗ stg c cc0_stg1_0 (outV m c))

theorem device_first (k : Dev nD → P F) (Q : PUnit → sProp (MT nD τ sig ℕ (Elt F) ℕ UU ℕ)) :
    wpc c (do let d0 ← Prog.lift .deviceId; k d0) Q = wpc c (k c) Q := by
  simp only [wpc, Prog.lift, Prog.bind_op, Prog.bind_ret, wp_deviceId]

theorem sound_body : bodyPre m c ⊢ wpc c bodyP (fun _ => bodyPost m c) := by
  unfold bodyP
  rw [device_first]
  unfold bodyPre Φ₀
  iintro H
  iapply (wp_fupd frame (wpE (defs₀ (F := F)) 𝒱₀ (c : Thread nD τ) none) Set.univ (bodyAtP c) (fun _ => bodyPost m c))
  icases H with ⟨⟨⟨%K, #HC⟩, Hg, Hs, Hsp⟩, Ho, ⟨%d0, Hx⟩, ⟨%d1, Hout⟩⟩
  have hx : (dats m 0 c).before (0 : Fin 2) t0_0 d0 = xV m c := by unfold Pipeline.Dat.before; rw [if_pos (by rfl)]; rfl
  ihave Hx := (Entails.of_eq (show stg c cc0_stg0_0 ((dats m 0 c).before (0 : Fin 2) t0_0 d0) = (owns (c : Thread nD τ) xM fullShare (xV m c) : sProp 𝕄) from by rw [hx])) $$ Hx
  unfold Pipeline.Dat.owesAt Pipeline.owesWithin
  icases Ho with ⟨%W, %hW, HO⟩
  iapply (wp_wand (Fr := frame) (wpE := wpE (defs₀ (F := F)) 𝒱₀ (c : Thread nD τ) none)) $$ [Hg Hs Hx Hout HO]
  · iapply (body_at m K c fullShare)
    isplitr; · iexact HC
    isplitl [Hg Hs]
    · iapply (bodyIn_intro m c)
      isplitl [Hg] <;> iassumption
    isplitl [Hx]; · iexact Hx
    isplitl [Hout]; · iapply (some1_intro c outM _) $$ Hout
    unfold ow; iexists W; iexact HO
  iintro %x ⟨Hb, Hx, Hout, HO⟩
  unfold bodyOut
  icases Hb with ⟨Hb, Hr, Ha, Hrs, Has, Hw, Hscr⟩
  imod (close_all m K c) $$ [Hb Hr Ha Hrs Has Hsp] with Hsem
  · isplitr; · iexact HC
    isplitl [Hb]; · iexact Hb
    isplitl [Hr]; · iexact Hr
    isplitl [Ha]; · iexact Ha
    isplitl [Hrs]; · iexact Hrs
    isplitl [Has] <;> iassumption
  imodintro
  unfold bodyPost Φ₁ Pipeline.Dat.owesAt Pipeline.owesWithin
  isplitl [Hsem Hw Hscr]
  · isplitl [Hsem]; · iexact Hsem
    isplitl [Hw]; · iexact Hw
    unfold scratch; iexact Hscr
  isplitl [HO]
  · unfold ow
    icases HO with ⟨%W', HO⟩
    iexists W'
    isplitr; · ipureintro; exact fun _ _ => Or.inl trivial
    iexact HO
  isplitl [Hx]; · iexact Hx
  iexact Hout

theorem table_at (t : Fin cfg0.N) (s : (w : Fin 2) → Fin (win0 w).nbuf) : defs₀ (F := F) .tc (0 : Fin 1) (t, s)
    = cc0_body (win0_0.stage (s 0)) (hstage0_0 0) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _) (win0_1.stage (s 1)) (hstage0_1 0) waM (Memref.isWhole_whole _) wbM (Memref.isWhole_whole _) cc0_scratch2 cc0_scratch3 xbM (Memref.isWhole_whole _) accM (Memref.isWhole_whole _) sbM (Memref.isWhole_whole _) rsM (Memref.isWhole_whole _) cc0_scratch8 cc0_scratch9 cc0_scratch10 cc0_scratch11 := by
  unfold defs₀ Defs.onTc
  dsimp only

theorem body_on (M₀ : Memref sig .tc .vmem S64x2048 .f32) (h₀ : M₀.IsWhole) (M₁ : Memref sig .tc .vmem S8x2048 .f32) (h₁ : M₁.IsWhole)
    (e₀ : M₀ = xM) (e₁ : M₁ = outM) : cc0_body (F := F) M₀ h₀ (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _) M₁ h₁ waM (Memref.isWhole_whole _) wbM (Memref.isWhole_whole _) cc0_scratch2 cc0_scratch3 xbM (Memref.isWhole_whole _) accM (Memref.isWhole_whole _) sbM (Memref.isWhole_whole _) rsM (Memref.isWhole_whole _) cc0_scratch8 cc0_scratch9 cc0_scratch10 cc0_scratch11 = bodyP := by
  subst e₀ e₁
  exact cc0_body_eq

theorem table_eq : defs₀ (F := F) .tc cfg0.body (cfg0.bodyArgs t0_0 (cfg0.slots t0_0)) = bodyP := by
  dsimp only [cfg0]
  rw [table_at]
  exact body_on _ _ _ _ rfl rfl

theorem body_obligation : Pipeline.BodyObligation (dats (F := F) m 0 c) (defs₀ (F := F)) 𝒱₀ 0 Set.univ := fun t => by
  rw [fin_N0 t, table_eq]
  rw [bigSep_W0, bigSep_W0]
  have h := sound_body m c
  generalize bodyP (F := F) = p at h ⊢
  exact h

/-! ## Funding -/

def u₀ : UU :=
  (initOf (Pipeline.cells cfgs cellOf_inj) (Pipeline.launchToks cfgs cellOf_inj), (initOf ringCells ringToks, 1))

/-- What the launch element deals a device, -/
def G : sProp 𝕄 :=
  iprop((bigSep Finset.univ fun k : CI => roundState ER (Rd m) (kcell (c, k)) 0)
    ∗ ((bigSep Finset.univ fun k : CI => atPos ER (kcell (c, k)) 0 ∅ 0) ∗ bigSep Finset.univ fun k : CI => reached ER (kcell (c, k)) 0) ∗ mine c)

/-- what is the same for all once the cells are open, -/
def records : sProp 𝕄 :=
  iprop((bigSep Finset.univ fun ck => cellInv ER (Rd m) (K ck) (kcell ck)) ∗ (bigSep Finset.univ fun ck : Dev nD × CI => reached ER (kcell ck) 0))
instance records_persistent : BI.Persistent (records m K) := by unfold records; infer_instance

/-- what each one keeps. -/
def keeps : sProp 𝕄 := iprop((bigSep Finset.univ fun k : CI => atPos ER (kcell (c, k)) 0 ∅ 0) ∗ mine c ∗ fetchSems c ∗ sendSems c)
def G' : sProp 𝕄 := iprop(∃ K, records m K ∗ keeps c)

theorem fund_all : BI.own (ER (initOf ringCells ringToks)) ⊢ (|==> bigSep Finset.univ (G m) : sProp 𝕄) := by
  iintro HX
  imod (Rounds.fund ER (Rd m) ringCells ringToks) $$ HX with ⟨Hst, Hr, Hat, Htok⟩
  imodintro
  ihave Hst := (Entails.of_eq (bigSep_cells fun g => roundState ER (Rd m) g 0)) $$ Hst
  ihave Hat := (Entails.of_eq (bigSep_cells (F := F) fun g => atPos ER g 0 ∅ 0)) $$ Hat
  ihave Hr := (Entails.of_eq (bigSep_cells (F := F) fun g => reached ER g 0)) $$ Hr
  ihave Htok := (Entails.of_eq (bigSep_toks (F := F))) $$ Htok
  unfold G; simp only [BI.bigSep_sep']
  isplitl [Hst]; · iexact Hst
  isplitl [Hat Hr]
  · isplitl [Hat] <;> iassumption
  iexact Htok

theorem core_alloc : iprop(Pipeline.ownSems0 (Ix := ℕ) (Name := ℕ) (U := UU) (Lvl := ℕ) (Val := Elt F) (τ := τ) osem c ∗ unscopedSems0 c ∗ G m c)
    ⊢ (|={Set.univ}=> iprop((bigSep Finset.univ fun k => iprop(∃ κ : ℕ, cellInv ER (Rd m) κ (kcell (c, k))))
        ∗ (bigSep Finset.univ fun k : CI => reached ER (kcell (c, k)) 0) ∗ keeps c) : sProp 𝕄) := by
  unfold G keeps
  iintro ⟨Hos, Hus, Hst, ⟨Hat, Hr⟩, Htok⟩
  ihave Hv := (sems_split (F := F) c) $$ [Hos Hus]
  · isplitl [Hos] <;> iassumption
  icases Hv with ⟨Hf, Hs, Hv⟩
  imod (show iprop((bigSep Finset.univ fun k : CI => semVal (kcell (c, k)) 0) ∗ bigSep Finset.univ fun k : CI => roundState ER (Rd m) (kcell (c, k)) 0)
      ⊢ (|={Set.univ}=> bigSep Finset.univ fun k => iprop(∃ κ : ℕ, cellInv ER (Rd m) κ (kcell (c, k))) : sProp 𝕄) from by
        rw [← BI.bigSep_sep']
        exact (BI.bigSep_mono fun k _ => (Rounds.body_intro ER (Rd m) (kcell (c, k))).trans inv_alloc).trans (BI.bigSep_fupd _ _)) $$ [Hv Hst] with Hinv
  · isplitl [Hv] <;> iassumption
  imodintro
  isplitl [Hinv]; · iexact Hinv
  isplitl [Hr]; · iexact Hr
  isplitl [Hat]; · iexact Hat
  isplitl [Htok]; · iexact Htok
  isplitl [Hf] <;> iassumption

theorem regroup : (bigSep Finset.univ fun c : Dev nD => iprop((bigSep Finset.univ fun k => iprop(∃ κ : ℕ, cellInv ER (Rd m) κ (kcell (c, k))))
        ∗ (bigSep Finset.univ fun k : CI => reached ER (kcell (c, k)) 0) ∗ keeps c) : sProp 𝕄) ⊢ bigSep Finset.univ (G' m) := by
  rw [BI.bigSep_sep', BI.bigSep_sep', ← BI.bigSep_univ_prod (fun ck : Dev nD × CI => iprop(∃ κ : ℕ, cellInv ER (Rd m) κ (kcell ck))),
    ← BI.bigSep_univ_prod (fun ck : Dev nD × CI => (reached ER (kcell ck) 0 : sProp 𝕄))]
  iintro ⟨HI, #HR, Hk⟩
  ihave HK := (BI.bigSep_exists_pi Finset.univ (fun (ck : Dev nD × CI) (κ : ℕ) => (cellInv ER (Rd m) κ (kcell ck) : sProp 𝕄))) $$ HI
  icases HK with ⟨%K, #HI⟩
  iapply (with_pers keeps (G' m) (records m K) fun c => by
    unfold G'
    iintro H
    iexists K
    iexact H)
  isplitr
  · unfold records
    isplitr; · iexact HI
    iexact HR
  iexact Hk

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((BI.bigSep_mono fun c _ => core_alloc m c).trans (BI.bigSep_fupd _ _)).trans (BI.fupd_mono (regroup m))

/-! ## A device's start and end -/

theorem start_intro :
    iprop(Pipeline.unscopedRestP Pipeline.Prefetch.none cfg0.spec c (fun b => m ((c : Thread nD τ).loc b)) ∗ levAts L lv
        ∗ Pipeline.launchCred D0 c ∗ prngReg c (ρ c) ∗ G' m c)
      ⊢ (|={Set.univ}=> iprop(start m c ∗ emp) : sProp 𝕄) := by
  rw [Pipeline.unscopedRestP_none]
  unfold G' keeps
  iintro ⟨Hw, #Hlev, Hcr, -, ⟨%K, #Hrec, Hat, Hm, Hf, Hs⟩⟩
  ihave Hw := (wts_intro m c) $$ Hw
  ihave Hcr := (credits (F := F) c) $$ Hcr
  icases Hcr with ⟨Hc0, Hc1, Hc2, Hc3, Hc4, Hc5⟩
  ihave Hm := (mine_split (F := F) c) $$ Hm
  icases Hm with ⟨Ht0, Ht1, Ht2, Ht3, Ht4, Ht5⟩
  ihave Hat := (Entails.of_eq (show (bigSep Finset.univ fun k : CI => atPos ER (kcell (c, k)) 0 ∅ 0 : sProp 𝕄)
      = iprop(atPos ER (barCell c) 0 ∅ 0 ∗ (atPos ER (rsCell c c) 0 ∅ 0 ∗ rsPoss c 0) ∗ (atPos ER (agCell c c) 0 ∅ 0 ∗ agPoss c 0)) from by
        rw [bigSep_CI, bigSep_devs c, bigSep_devs c]; rfl)) $$ Hat
  icases Hat with ⟨Hb, ⟨Hro, Hr⟩, Hao, Ha⟩
  ihave Hs := (Entails.of_eq (show (sendSems c : sProp 𝕄) = iprop((semVal (sendRS c c) 0 ∗ rsSems c) ∗ (semVal (sendAG c c) 0 ∗ agSems c)) from by
        unfold sendSems; rw [bigSep_devs c, bigSep_devs c]; rfl)) $$ Hs
  icases Hs with ⟨⟨Hso, Hsr⟩, Hto, Hta⟩
  imodintro
  isplitl
  · unfold start gifts spare
    isplitr
    · iexists K
      unfold ctx
      isplitr; · iexact Hlev
      unfold records
      iexact Hrec
    isplitr [Hro Hao Hso Hto Hf]
    · isplitl [Ht0]; · iexact Ht0
      isplitl [Hc0]; · iexact Hc0
      isplitl [Hb]; · iexact Hb
      isplitl [Ht1]; · iexact Ht1
      isplitl [Ht2]; · iexact Ht2
      isplitl [Ht3]; · iexact Ht3
      isplitl [Ht4]; · iexact Ht4
      isplitl [Ht5]; · iexact Ht5
      isplitl [Hc1]; · iexact Hc1
      isplitl [Hc2]; · iexact Hc2
      isplitl [Hc3]; · iexact Hc3
      isplitl [Hc4]; · iexact Hc4
      isplitl [Hc5]; · iexact Hc5
      isplitl [Hr]; · iexact Hr
      isplitl [Ha]; · iexact Ha
      isplitl [Hsr]; · iexact Hsr
      isplitl [Hta] <;> iassumption
    isplitr [Hf]
    · isplitl [Hro]; · iexact Hro
      isplitl [Hao]; · iexact Hao
      isplitl [Hso] <;> iassumption
    iexact Hf
  iempintro

theorem phi0_intro :
    iprop(start m c ∗ Pipeline.prefHeld Pipeline.Prefetch.none c (fun _ => fullShare.right) (fun k => k.elim0) ∗ Pipeline.scopedRest cfg0.spec c)
      ⊢ ((dats m 0 c).Φ 0 : sProp 𝕄) := by
  rw [show (dats m 0 c).Φ 0 = Φ₀ m c from rfl]
  unfold Φ₀ start
  iintro ⟨⟨HC, Hg, Hsp, Hf⟩, -, Hr⟩
  isplitl [HC]; · iexact HC
  isplitl [Hg]; · iexact Hg
  isplitl [Hf Hr]
  · iapply (scratch_intro (F := F) c)
    isplitl [Hf]; · iexact Hf
    iexact Hr
  iexact Hsp

theorem phi1_exit : ((dats m 0 c).Φ (Fin.last cfg0.N) : sProp 𝕄)
    ⊢ iprop((unscopedSems0 c ∗ wts m c) ∗ Pipeline.ownSems0 osem c ∗ Pipeline.scopedRest cfg0.spec c) := by
  rw [show (dats m 0 c).Φ (Fin.last cfg0.N) = Φ₁ m c from rfl]
  unfold Φ₁
  iintro ⟨⟨Hs, Hv⟩, Hw, Hscr⟩
  ihave Hscr := (scratch_elim (F := F) c) $$ Hscr
  icases Hscr with ⟨Hf, Hr⟩
  ihave Hu := (sems_join (F := F) c) $$ [Hf Hs Hv]
  · isplitl [Hf]; · iexact Hf
    isplitl [Hs] <;> iassumption
  icases Hu with ⟨Hu, Ho⟩
  isplitl [Hu Hw]
  · isplitl [Hu] <;> iassumption
  isplitl [Ho]; · iexact Ho
  iexact Hr

theorem waits : (levAts L lv : sProp 𝕄) ⊢ Pipeline.cellsWaits cfgs (dats m) 0 0 c :=
  Pipeline.cellsWaits_intro cfgs (dats m) 0 0 c fun w s t => by
    refine mayWait c _ (by decide) ?_
    have hl : lv ((c : Thread nD τ), .dma (((cfgs 0).win w).sem s)) 0 = 0 := by
      revert s
      fin_cases w <;> exact fun s => by dsimp only [lv]; revert s; decide +kernel
    rw [hl]
    rcases t with ⟨_ | _, ht⟩
    · exact above_D0 c (by decide)
    · exact above_zero _

theorem share_eq (w : Fin cfg0.W) : (dats m 0 c).share w = fullShare := by unfold Pipeline.Dat.share; split <;> rfl

/-! ## The run -/

/-- The weights at the end are those of the start. -/
def Same (s : MemSt nD τ sig (Elt F)) : Prop :=
  s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ s.mem ((c : Thread nD τ).loc main_arg5) = m ((c : Thread nD τ).loc main_arg5)
  ∧ s.mem ((c : Thread nD τ).loc main_arg6) = m ((c : Thread nD τ).loc main_arg6)

def Ends (r : PUnit × MemSt nD τ sig (Elt F)) : Prop :=
  (∀ c : Dev nD, (∀ w : Fin cfg0.W, r.2.mem ((cfg0.win w).arr.view.loc (c : Thread nD τ)) = (dats m 0 c).arrAt w cfg0.N) ∧ Same m c r.2)
    ∧ r.2.sem = fun _ => 0

set_option maxRecDepth 65536 in
theorem run_windows : θ_run defs (onTc (τ := τ) (main (F := F))) ⟨m, fun _ => 0, ρ⟩ (Ends m) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := D0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (own_pair_emb (embR : Emb (UB × Counters) (MT nD τ sig ℕ (Elt F) ℕ UU ℕ)) _ _) $$ HX
      icases HX with ⟨HX, -⟩
      ihave HX := (Entails.of_eq (show (BI.own (((Emb.inl : Emb UB (UB × Counters)).trans (embR : Emb (UB × Counters) (MT nD τ sig ℕ (Elt F) ℕ UU ℕ))) (initOf ringCells ringToks)) : sProp 𝕄)
          = BI.own (ER (initOf ringCells ringToks)) from rfl)) $$ HX
      imod (fund_all m) $$ HX with HG
      imodintro
      isplitl [HP] <;> iassumption)
    (hglob := glob m)
    (hA := fun _ _ => rfl) (hpf := fun _ k => k.elim0)
    (X := start m) (Y := fun c => iprop(unscopedSems0 c ∗ wts m c)) (Z := fun _ => iprop(emp))
    (hX := fun c => start_intro m c ρ) (hin := phi0_intro m) (hout := phi1_exit m)
    (QY := fun c s => Same m c s ∧ ∀ sm : SemLoc sig, sm.isScoped .tc = false → s.sem ((c.tc : Thread nD τ), sm) = 0)
    (hY := fun c s' => by
      iintro ⟨⟨Hu, Hw⟩, -, HSI⟩
      ihave HS := (wts_read m c s') $$ [Hw HSI]
      · isplitl [Hw] <;> iassumption
      icases HS with ⟨%hs, HSI⟩
      imod (Pipeline.unscopedSems0_read (X := unscopedSems0 c) (c := c) fupd_intro s') $$ [Hu HSI] with ⟨%hz, HSI⟩
      · isplitl [Hu] <;> iassumption
      imodintro
      isplitr
      · ipureintro; exact ⟨hs, hz⟩
      iexact HSI)
    (hQ := fun _ h hs => ⟨fun c => ⟨(h c).1, (h c).2.2.1⟩, sem_eq_zero hs fun c => (h c).2.2.2⟩)

end Cert.KernelIdeal.Own
-- ==== Proof.Run.lean ====
/- The run of the whole program, read at its arguments and its result. -/
module

public import proofs.«01_k».proof.Proof.Launch
public import Idealize.ShloMosaic.Lib.Pipeline.Value

@[expose] public section

noncomputable section

namespace Cert.KernelIdeal.Own

open Idealize.ShloMosaic Idealize.SL Idealize.SL.RA Idealize.SL.BI
open scoped Idealize.SL.BI
open Idealize.SL.BI.BIBase Idealize.SL.BI.Laws Idealize.SL.ProofMode Idealize.SL.Sem
open Idealize.ShloMosaic.TcCoe
open Idealize.ShloMosaic.Rounds Idealize.ShloMosaic.Transfers
open Idealize.ShloMosaic.ValueIdx
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (K : Dev nD × CI → ℕ) (c : Dev nD)

variable (ρ : Dev nD → PrngReg)

variable (ρ : Dev nD → PrngReg)

theorem blk0_emb (t : Fin grid0.N) (y : S64x2048.Idx) : (win0_0.blk t).view.emb y = y := by
  funext a
  apply Fin.ext
  refine (Pipeline.Window.rect_emb_val_off win0_0 t y a).trans ?_
  rw [fin_N0 t]
  fin_cases a <;> (simp [Pipeline.WinKind.off]; exact Or.inl rfl)

theorem blk1_emb (t : Fin grid0.N) (y : S8x2048.Idx) : (win0_1.blk t).view.emb y = y := by
  funext a
  apply Fin.ext
  refine (Pipeline.Window.rect_emb_val_off win0_1 t y a).trans ?_
  rw [fin_N0 t]
  fin_cases a <;> (simp [Pipeline.WinKind.off]; exact Or.inl rfl)

theorem xV_eq : xV m c = m ((c : Thread nD τ).loc main_arg0) := by
  funext y
  exact congrArg (m ((c : Thread nD τ).loc main_arg0)) (blk0_emb (0 : Fin 1) y)

theorem res_eq : (dats m 0 c).arrAt (1 : Fin 2) cfg0.N = outV m c := by
  refine (dats m 0 c).arrAt_eq_of_cover (1 : Fin 2) (outV m c) (fun t _ => ?_) fun i => ⟨t0_0, rfl, ?_⟩
  · funext y
    exact congrArg (outV m c) (blk1_emb t y).symm
  · rw [← blk1_emb t0_0 i]
    exact View.emb_mem_set _ i

/-- From any memory: the program ends, its arguments unchanged, every counter at zero, each device's result at `outV`. -/
theorem run_main : θ_run defs (onTc (τ := τ) (main (F := F))) ⟨m, fun _ => 0, ρ⟩ fun r =>
    (∀ c : Dev nD, r.2.mem ((c : Thread nD τ).loc main_v1) = outV m c
      ∧ r.2.mem ((c : Thread nD τ).loc main_arg0) = m ((c : Thread nD τ).loc main_arg0) ∧ Same m c r.2) ∧ r.2.sem = fun _ => 0 :=
  (θ_run defs _ _).mono (fun r h => ⟨fun c => ⟨((h.1 c).1 (1 : Fin 2)).trans (res_eq m c),
    ((h.1 c).1 (0 : Fin 2)).trans ((dats m 0 c).arrAt_in (0 : Fin 2) rfl _), (h.1 c).2⟩, h.2⟩) (run_windows m ρ)

end Cert.KernelIdeal.Own
-- ==== Proof.Tile.lean ====
/- Over the extended reals, one weight tile's two products, and a device's accumulator after its eight tiles, as sums. -/
module

public import proofs.«01_k».proof.Proof.Vals
public import Idealize.ShloMosaic.Lib.MatmulPlain
public import Idealize.ShloMosaic.Lib.StackMember
public import Idealize.ShloMosaic.Lib.KernelVsHost
public import Idealize.ShloMosaic.Lib.Pipeline.Value
public import Idealize.ShloMosaic.Lib.Pointwise.Sums

@[expose] public section

noncomputable section

namespace Cert.KernelIdeal.Own

open Idealize.ShloMosaic hiding ix1 ix2 ix3
open Idealize.ShloMosaic.TcCoe
open Idealize.ShloMosaic.ValueIdx
open Cert.KernelIdeal Cert.KernelIdeal.Gen
open scoped BigOperators

/-- One hidden unit's value in row `r`: the product with the unit's column `w`, kept where positive. -/
def unit {D : ℕ} (x w : Fin D → EReal) : EReal := max (∑ e, x e * w e) 0

/-- What one tile adds to entry `(r, d)`: the sum over the tile's hidden units. -/
theorem tileMul_apply (x : Vec Ideal S64x2048 .bf16) (a : FVec Ideal S2048x512 .f32) (b : FVec Ideal S512x2048 .f32)
    (r : Fin 64) (d : Fin 2048) :
    tileMul x a b (ix2 r d) = ∑ t : Fin 512, unit (fun e => x (ix2 r e)) (fun e => a (ix2 e t)) * b (ix2 t d) := by
  show FloatOps.matmul (DotDims.plain 64 512 2048) none _ _ _ (ix2 r d) = _
  rw [Ideal.matmul_plain_apply]
  show Ideal.ofBits .f32 0x00000000#32 + _ = _
  rw [Ideal.ofBits_zero_f32, zero_add]
  refine Finset.sum_congr rfl fun t _ => ?_
  show max (FloatOps.matmul (DotDims.plain 64 2048 512) none _ _ _ (ix2 r t)) (Ideal.ofBits .f32 0x00000000#32) * _ = _
  rw [Ideal.matmul_plain_apply]
  show max (Ideal.ofBits .f32 0x00000000#32 + _) (Ideal.ofBits .f32 0x00000000#32) * _ = _
  rw [Ideal.ofBits_zero_f32, zero_add]
  rfl

/-- Reading the first tile's store and a later one's. -/
theorem firstVal_eq (x : Vec Ideal S64x2048 .bf16) (a : FVec Ideal S2048x512 .f32) (b : FVec Ideal S512x2048 .f32) :
    firstVal x a b = tileMul x a b := shapeCast_self _ _
theorem nextVal_eq (x : Vec Ideal S64x2048 .bf16) (a : FVec Ideal S2048x512 .f32) (b : FVec Ideal S512x2048 .f32)
    (acc : FVec Ideal S64x2048 .f32) : nextVal x a b acc = fun i => acc i + tileMul x a b i := shapeCast_self _ _

/-- The accumulator after the eighth tile is the sum of the tiles. -/
theorem accUp_last (x : Vec Ideal S64x2048 .bf16) (a : Fin 8 → FVec Ideal S2048x512 .f32) (b : Fin 8 → FVec Ideal S512x2048 .f32)
    (i : S64x2048.Idx) : accUp x a b 7 i = ∑ j : Fin 8, tileMul x (a j) (b j) i := by
  rw [Fin.sum_univ_eight]
  simp only [accUp, firstVal_eq, nextVal_eq]
  rfl

end Cert.KernelIdeal.Own

end

end
-- ==== Proof.Reduce.lean ====
/- Over the extended reals, the reduced rows of a device are the plain sum over the eight devices, its own rows included:
   the kernel masks the device's own slot and adds its own rows from the accumulator. -/
module

public import proofs.«01_k».proof.Proof.Tile

@[expose] public section

noncomputable section

namespace Cert.KernelIdeal.Own

open Idealize.ShloMosaic hiding ix1 ix2 ix3
open Idealize.ShloMosaic.TcCoe
open Idealize.ShloMosaic.ValueIdx
open Cert.KernelIdeal Cert.KernelIdeal.Gen
open scoped BigOperators

/-- A sum with one term left out, and that term. -/
theorem sum_without {n : ℕ} (c : Fin n) (f : Fin n → EReal) : (∑ k, if c = k then 0 else f k) + f c = ∑ k, f k := by
  have h : ∑ k, (if c = k then f k else 0) = f c := by rw [Finset.sum_ite_eq]; exact if_pos (Finset.mem_univ _)
  rw [← h, ← Finset.sum_add_distrib]
  refine Finset.sum_congr rfl fun k _ => ?_
  by_cases e : c = k
  · rw [if_pos e, if_pos e, zero_add]
  · rw [if_neg e, if_neg e, add_zero]

/-- The last reduction's value at an index. -/
theorem pay1_apply (c : Fin 8) (Y : Fin 8 → S8x2048.Idx → EReal) (a : S8x2048.Idx → EReal) (j : S8x2048.Idx) :
    (k0_pay1 (F := Ideal) (k0_pay16 (myW c)) (stack Y) a j : EReal) = (∑ k : Fin 8, if c = k then 0 else Y k j) + a j := by
  unfold k0_pay1
  dsimp only
  refine congrArg (· + a j) ?_
  refine (Ideal.multiReduction_add_single _ _ reduces_S8x8x2048_S8x2048 (.inl rfl) rfl j).trans ?_
  refine Finset.sum_congr rfl fun (k : Fin 8) _ => ?_
  rw [select_apply, mask_any]
  have ek : (reduces_S8x8x2048_S8x2048.lift j k) 0 = k := rfl
  have ej : stack Y (reduces_S8x8x2048_S8x2048.lift j k) = Y k j := by
    refine congrArg (Y k) ?_
    funext a
    match a with
    | ⟨0, _⟩ => rfl
    | ⟨1, _⟩ => rfl
  by_cases h : c = k
  · rw [if_pos (by rw [ek, h]), if_pos h]
    exact Ideal.ofBits_zero_f32
  · rw [if_neg (by rw [ek]; exact fun e => h (Fin.ext e)), if_neg h]
    exact ej

/-- The other reductions' is the same. -/
theorem pay17_apply (c : Fin 8) (Y : Fin 8 → S8x2048.Idx → EReal) (a : S8x2048.Idx → EReal) (j : S8x2048.Idx) :
    (k0_pay17 (F := Ideal) (k0_pay16 (myW c)) (stack Y) a j : EReal) = (∑ k : Fin 8, if c = k then 0 else Y k j) + a j :=
  (congrFun (shapeCast_self _ _) j).trans (pay1_apply c Y a j)

/-- The row of a device's block in the whole. -/
abbrev rowOf (s r : Fin 8) : Fin 64 := ⟨8 * s.val + r.val, by omega⟩

theorem blk_apply (X : S64x2048.Idx → EReal) (s r : Fin 8) (d : Fin 2048) : blk X s (ix2 r d) = X (ix2 (rowOf s r) d) := by
  refine congrArg X ?_
  funext a
  apply Fin.ext
  match a with
  | ⟨0, _⟩ => show 8 * s.val + 1 * r.val = 8 * s.val + r.val; omega
  | ⟨1, _⟩ => show 0 + 1 * d.val = d.val; omega

/-- The rounded copies are the values themselves. -/
theorem pay15_eq (X : FVec Ideal S64x2048 .f32) : (k0_pay15 (F := Ideal) X : S64x2048.Idx → EReal) = X := shapeCast_self _ _
theorem pay2_eq (X : Vec Ideal S64x2048 .f32) : (k0_pay2 (F := Ideal) X : S64x2048.Idx → EReal) = X :=
  (shapeCast_self _ _).trans (shapeCast_self (s := S64x2048) (α := EReal) X _)

/-- A masked sum over the rounded copies and the device's own values is the sum over the devices. -/
theorem masked_sum (A : Dev nD → FVec Ideal S64x2048 .f32) (s r : Fin 8) (d : Fin 2048) :
    ((∑ k : Fin 8, if s = k then 0 else (blk (k0_pay15 (F := Ideal) (A k)) s (ix2 r d) : EReal)) + (blk (A s) s (ix2 r d) : EReal) : EReal)
      = ∑ t : Fin 8, (A t (ix2 (rowOf s r) d) : EReal) := by
  have e : ∀ k : Fin 8, (blk (k0_pay15 (F := Ideal) (A k)) s (ix2 r d) : EReal) = A k (ix2 (rowOf s r) d) := fun k =>
    (congrFun (congrArg (fun X : S64x2048.Idx → EReal => blk X s) (pay15_eq (A k))) _).trans (blk_apply _ _ _ _)
  have e' : (blk (A s) s (ix2 r d) : EReal) = A s (ix2 (rowOf s r) d) := blk_apply _ _ _ _
  rw [e']
  simp only [e]
  exact sum_without s fun t => (A t (ix2 (rowOf s r) d) : EReal)

/-- A device's reduced rows are the sums over the devices. -/
theorem redOf_apply (A : Dev nD → FVec Ideal S64x2048 .f32) (s : Fin 8) (r : Fin 8) (d : Fin 2048) :
    (redOf A s (ix2 r d) : EReal) = ∑ t : Fin 8, (A t (ix2 (rowOf s r) d) : EReal) := by
  refine (pay17_apply s _ _ _).trans ?_
  exact masked_sum A s r d

/-- All of them side by side, at a row of the whole. -/
theorem gat_redOf (A : Dev nD → FVec Ideal S64x2048 .f32) (r : Fin 64) (d : Fin 2048) :
    (gat (redOf A) (ix2 r d) : EReal) = ∑ t : Fin 8, (A t (ix2 r d) : EReal) := by
  refine (redOf_apply A _ _ _).trans ?_
  have e : rowOf ⟨r.val / 8, by omega⟩ ⟨r.val % 8, Nat.mod_lt _ (by decide)⟩ = r := Fin.ext (by show 8 * (r.val / 8) + r.val % 8 = r.val; omega)
  exact Finset.sum_congr rfl fun t _ => congrArg (fun q => A t (ix2 q d)) e

/-- What a device returns are the sums of the third layer's rows. -/
theorem outV_apply (m : (ℓ : Loc nD τ sig) → Buf (Elt Ideal) ℓ) (c : Fin 8) (r : Fin 8) (d : Fin 2048) :
    (outV m c (ix2 r d) : EReal) = ∑ t : Fin 8, (As m 2 t (ix2 (rowOf c r) d) : EReal) :=
  (pay1_apply c _ _ _).trans (masked_sum (As m 2) c r d)

end Cert.KernelIdeal.Own

end

end
-- ==== Proof.Layer.lean ====
/- One layer over the whole weights, as a sum over all hidden units, and the eight devices' accumulators added up: they are
   the same, since the devices' columns and the tiles of each cut the hidden units up. -/
module

public import proofs.«01_k».proof.Proof.Reduce
public import proofs.«01_k».proof.Proof.Run
public import Idealize.ShloMosaic.Lib.Layout

@[expose] public section

noncomputable section

namespace Cert.KernelIdeal.Own

open Idealize.ShloMosaic hiding ix1 ix2 ix3
open Idealize.ShloMosaic.TcCoe
open Idealize.ShloMosaic.ValueIdx
open Cert.KernelIdeal Cert.KernelIdeal.Gen
open scoped BigOperators

/-- A layer: each entry is the sum, over the hidden units, of the unit's value in the row times its weight. -/
def layer (X : S64x2048.Idx → EReal) (W : (⟨2, ![2048, 32768]⟩ : Shape).Idx → EReal) (V : (⟨2, ![32768, 2048]⟩ : Shape).Idx → EReal) :
    S64x2048.Idx → EReal := fun i =>
  ∑ q : Fin 32768, unit (fun e => X (ix2 (i 0) e)) (fun e => W (ix2 e q)) * V (ix2 q (i 1))

/-- Where the hidden unit `t` of tile `j` on device `c` is in the whole. -/
abbrev unitAt (c j : Fin 8) (t : Fin 512) : Fin 32768 := ⟨c.val * 4096 + (j.val * 512 + t.val), by omega⟩

/-- A sum over the hidden units, device by device and tile by tile. -/
theorem sum_units (f : Fin 32768 → EReal) : ∑ q, f q = ∑ c : Fin 8, ∑ j : Fin 8, ∑ t : Fin 512, f (unitAt c j t) := by
  rw [Fin.sum_univ_tiles 8 4096 (by norm_num) f]
  refine Finset.sum_congr rfl fun c _ => ?_
  rw [Fin.sum_univ_tiles 8 512 (by norm_num)]

variable (m : (ℓ : Loc nD τ sig) → Buf (Elt Ideal) ℓ)
variable (W : Fin 3 → (⟨2, ![2048, 32768]⟩ : Shape).Idx → EReal) (V : Fin 3 → (⟨2, ![32768, 2048]⟩ : Shape).Idx → EReal)

/-- Every device holds its block of the whole weights. -/
def Cut : Prop := ∀ (c : Fin 8) (k : Fin 3),
  winV m c k = Layout.block ⟨2, ![2048, 4096]⟩ ⟨2, ![2048, 32768]⟩ 1 8 c (W k)
    ∧ woutV m c k = Layout.block ⟨2, ![4096, 2048]⟩ ⟨2, ![32768, 2048]⟩ 0 8 c (V k)

variable {m W V}

theorem tileA_apply (h : Cut m W V) (c : Fin 8) (k : Fin 3) (j : Fin 8) (e : Fin 2048) (t : Fin 512) :
    (tileA m c k j (ix2 e t) : EReal) = W k (ix2 e (unitAt c j t)) := by
  unfold tileA
  rw [(h c k).1]
  refine congrArg (W k) ?_
  funext a
  apply Fin.ext
  match a with
  | ⟨0, _⟩ => show 0 + 1 * e.val = e.val; omega
  | ⟨1, _⟩ => show c.val * 4096 + (512 * j.val + 1 * t.val) = c.val * 4096 + (j.val * 512 + t.val); omega

theorem tileB_apply (h : Cut m W V) (c : Fin 8) (k : Fin 3) (j : Fin 8) (t : Fin 512) (d : Fin 2048) :
    (tileB m c k j (ix2 t d) : EReal) = V k (ix2 (unitAt c j t) d) := by
  unfold tileB
  rw [(h c k).2]
  refine congrArg (V k) ?_
  funext a
  apply Fin.ext
  match a with
  | ⟨0, _⟩ => show c.val * 4096 + (512 * j.val + 1 * t.val) = c.val * 4096 + (j.val * 512 + t.val); omega
  | ⟨1, _⟩ => show 0 + 1 * d.val = d.val; omega

/-- The devices' accumulators of a layer add up to the layer. -/
theorem sum_accOf (h : Cut m W V) (k : ℕ) (X : Vec Ideal S64x2048 .bf16) (r : Fin 64) (d : Fin 2048) :
    ∑ c : Fin 8, (accOf m k c X (ix2 r d) : EReal) = layer X (W (lay k)) (V (lay k)) (ix2 r d) := by
  refine Eq.trans ?_ (sum_units _).symm
  refine Finset.sum_congr rfl fun c _ => ?_
  refine (accUp_last _ _ _ _).trans (Finset.sum_congr rfl fun j _ => ?_)
  refine (tileMul_apply _ _ _ _ _).trans (Finset.sum_congr rfl fun t _ => ?_)
  rw [tileB_apply h]
  refine congrArg (unit _ · * _) ?_
  funext e
  exact tileA_apply h c _ j e t

/-- The layers' activations over the whole weights. -/
def act (W : Fin 3 → (⟨2, ![2048, 32768]⟩ : Shape).Idx → EReal) (V : Fin 3 → (⟨2, ![32768, 2048]⟩ : Shape).Idx → EReal)
    (X : S64x2048.Idx → EReal) : ℕ → S64x2048.Idx → EReal
  | 0 => X
  | k + 1 => layer (act W V X k) (W (lay k)) (V (lay k))

/-- An index of the activations is its row and its column. -/
theorem eq_of_rows {X Y : S64x2048.Idx → EReal} (h : ∀ (r : Fin 64) (d : Fin 2048), X (ix2 r d) = Y (ix2 r d)) : X = Y := by
  funext i
  have e : i = ix2 (i 0) (i 1) := by
    funext a
    match a with
    | ⟨0, _⟩ => rfl
    | ⟨1, _⟩ => rfl
  rw [e]
  exact h _ _

/-- Every device holds them. -/
theorem Xs_eq (h : Cut m W V) (X : S64x2048.Idx → EReal) (hX : ∀ c : Dev nD, m ((c : Thread nD τ).loc main_arg0) = X) (k : ℕ) (c : Dev nD) :
    (Xs m k c : S64x2048.Idx → EReal) = act W V X k := by
  induction k generalizing c with
  | zero => exact (pay2_eq _).trans ((xV_eq m c).trans (hX c))
  | succ k ih =>
    refine eq_of_rows fun r d => ?_
    refine (gat_redOf _ r d).trans ?_
    refine Eq.trans ?_ (sum_accOf h k (act W V X k) r d)
    refine Finset.sum_congr rfl fun t _ => ?_
    rw [ih t]

/-- Each device returns its rows of the third layer. -/
theorem outV_eq (h : Cut m W V) (X : S64x2048.Idx → EReal) (hX : ∀ c : Dev nD, m ((c : Thread nD τ).loc main_arg0) = X) (c : Fin 8) :
    (outV m c : S8x2048.Idx → EReal) = Layout.block ⟨2, ![8, 2048]⟩ ⟨2, ![64, 2048]⟩ 0 8 c (act W V X 3) := by
  funext i
  have ei : i = ix2 (i 0) (i 1) := by
    funext a
    match a with
    | ⟨0, _⟩ => rfl
    | ⟨1, _⟩ => rfl
  rw [ei]
  refine (outV_apply m c _ _).trans ?_
  have e : ∀ t : Fin 8, (As m 2 t : S64x2048.Idx → EReal) = accOf m 2 t (act W V X 2) := fun t => by
    unfold As; rw [Xs_eq h X hX]
  simp only [e]
  refine (sum_accOf h 2 (act W V X 2) _ _).trans ?_
  show act W V X 3 _ = act W V X 3 _
  refine congrArg (act W V X 3) ?_
  funext a
  apply Fin.ext
  match a with
  | ⟨0, _⟩ => show 8 * c.val + (i 0).val = c.val * 8 + (i 0).val; omega
  | ⟨1, _⟩ => rfl

end Cert.KernelIdeal.Own

end

end
-- ==== Proof.RefLayer.lean ====
/- What the reference computes: each of its layers, two host products with the positive part between them, is the sum over
   the hidden units; so its result is the third layer's activations. -/
module

public import proofs.«01_k».proof.Proof.Layer
public import proofs.«01_k».proof.Proof.Gen.ReferenceIdeal.Run

@[expose] public section

noncomputable section

namespace Cert.ReferenceIdeal.Own

open Idealize.ShloMosaic hiding ix1 ix2 ix3
open Idealize.ShloMosaic.TcCoe
open Idealize.ShloMosaic.ValueIdx
open Idealize.ShloMosaic.StackMember
open Cert.ReferenceIdeal Cert.ReferenceIdeal.Gen
open Cert.KernelIdeal.Own (unit layer act eq_of_rows)
open scoped BigOperators

/-- One layer as the host computes it. -/
def hostLayer (X : FVec Ideal S64x2048 .f32) (W : FVec Ideal S2048x32768 .f32) (V : FVec Ideal S32768x2048 .f32) : FVec Ideal S64x2048 .f32 :=
  Host.dotGeneral dot_S64x32768_S32768x2048_S64x2048_1_0_0_1_n_n none
    (maximumf (Host.dotGeneral dot_S64x2048_S2048x32768_S64x32768_1_0_0_1_n_n none X W)
      (broadcastInDim S64x32768 ![] bcast_S_S64x32768 (constant S_ .f32 0x00000000#32))) V

theorem hostLayer_eq (X : FVec Ideal S64x2048 .f32) (W : FVec Ideal S2048x32768 .f32) (V : FVec Ideal S32768x2048 .f32) :
    (hostLayer X W V : S64x2048.Idx → EReal) = layer X W V := by
  refine eq_of_rows fun r d => ?_
  refine (dotGeneral_plain_apply (m := 64) (k := 32768) (n := 2048) none _ V r d).trans (Finset.sum_congr rfl fun q _ => ?_)
  refine congrArg (· * V (ix2 q d)) ?_
  show max (Host.dotGeneral (DotDims.plain 64 2048 32768) none X W (ix2 r q) : EReal) (Ideal.ofBits .f32 0x00000000#32) = _
  rw [dotGeneral_plain_apply, Ideal.ofBits_zero_f32]
  rfl

variable (m : (ℓ : Loc nD τ sig) → Buf (Elt Ideal) ℓ) (c : Dev nD)

/-- The whole input and the whole weights. -/
def input : S64x2048.Idx → EReal := m ((c : Thread nD τ).loc main_arg0)
def wIn : Fin 3 → S2048x32768.Idx → EReal
  | 0 => m ((c : Thread nD τ).loc main_arg1)
  | 1 => m ((c : Thread nD τ).loc main_arg2)
  | 2 => m ((c : Thread nD τ).loc main_arg3)
def wOut : Fin 3 → S32768x2048.Idx → EReal
  | 0 => m ((c : Thread nD τ).loc main_arg4)
  | 1 => m ((c : Thread nD τ).loc main_arg5)
  | 2 => m ((c : Thread nD τ).loc main_arg6)

/-- The reference's result: three layers. -/
theorem result_eq :
    (hostLayer (hostLayer (hostLayer (input m c) (wIn m c 0) (wOut m c 0)) (wIn m c 1) (wOut m c 1)) (wIn m c 2) (wOut m c 2)
      : S64x2048.Idx → EReal) = act (wIn m c) (wOut m c) (input m c) 3 := by
  rw [hostLayer_eq, hostLayer_eq, hostLayer_eq]
  rfl

end Cert.ReferenceIdeal.Own

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.RefLayer
public import Idealize.ShloMosaic.Adequacy
public import Idealize.ShloMosaic.Init

@[expose] public section

noncomputable section

namespace Cert.Proof

open Idealize.ShloMosaic Idealize.SL.Sem

/-- The frame of the idealized text, at the machine's own floats. -/
def FrameBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

/-- It holds: the run with the results dropped. -/
theorem frameBits : FrameBits := fun m ρ _ =>
  (θ_run Cert.KernelIdeal.defs _ _).mono (fun _ h => ⟨fun c => (h.1 c).2, h.2⟩) (Cert.KernelIdeal.Own.run_main (F := Bits) m ρ)

/-- The kernel's text and its idealization's are one. -/
theorem frame_eq : Cert.quiescent_Kernel = FrameBits := by
  chain_rfl

/-- The three frames. -/
theorem frame_kernel : Cert.quiescent_Kernel := frame_eq ▸ frameBits

theorem frame_kernelIdeal : Cert.quiescent_KernelIdeal := fun m ρ _ =>
  (θ_run Cert.KernelIdeal.defs _ _).mono (fun _ h => ⟨fun c => (h.1 c).2, h.2⟩) (Cert.KernelIdeal.Own.run_main (F := Ideal) m ρ)

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Over the extended reals every device returns its eight rows of the reference's result. -/
theorem value : Cert.algebraic_KernelIdeal_ReferenceIdeal := by
  intro m g m' g' _ h
  let W := Cert.ReferenceIdeal.Own.wIn m' 0
  let V := Cert.ReferenceIdeal.Own.wOut m' 0
  let X := Cert.ReferenceIdeal.Own.input m' 0
  have cut : Cert.KernelIdeal.Own.Cut m W V := fun c k => by
    obtain ⟨_, a0, a1, a2, b0, b1, b2⟩ := h c
    match k with
    | 0 => exact ⟨a0, b0⟩
    | 1 => exact ⟨a1, b1⟩
    | 2 => exact ⟨a2, b2⟩
  refine ⟨Cert.KernelIdeal.Own.act W V X 3, ?_, ?_⟩
  · exact (θ_run Cert.KernelIdeal.defs _ _).mono
      (fun _ hr c => ⟨(hr.1 c).1.trans (Cert.KernelIdeal.Own.outV_eq cut X (fun c => (h c).1) c), (hr.1 c).2⟩)
      (Cert.KernelIdeal.Own.run_main (F := Ideal) m g)
  · exact (θ_run Cert.ReferenceIdeal.defs _ _).mono
      (fun _ hr => ⟨(hr 0).1.trans (Cert.ReferenceIdeal.Own.result_eq m' 0), (hr 0).2⟩)
      (Cert.ReferenceIdeal.Value.run (F := Ideal) m' g')

theorem claim : Cert.Claim := ⟨Cert.Kernel.Gen.facts, Cert.KernelIdeal.Gen.facts, Cert.ReferenceIdeal.Gen.facts,
  frame_kernel, frame_kernelIdeal, frame_reference, trivial, value⟩

end Cert.Proof

end
